-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def preserves_Kernel_KernelIdeal : Prop :=
  IdealRules.named_const.Statement Cert.KernelIdeal.κ "slope0" .f32 0x3F3504F3#32 (((Real.sqrt 2)⁻¹ : ℝ) : EReal)
  ∧ IdealRules.named_const.Statement Cert.KernelIdeal.κ "slope2" .f32 0x3EB504F3#32 (((Real.sqrt 8)⁻¹ : ℝ) : EReal)
  ∧ IdealRules.named_const.Statement Cert.KernelIdeal.κ "slope4" .f32 0x3E3504F3#32 (((Real.sqrt 32)⁻¹ : ℝ) : EReal)
  ∧ IdealRules.named_const.Statement Cert.KernelIdeal.κ "slope6" .f32 0x3DB504F3#32 (((Real.sqrt 128)⁻¹ : ℝ) : EReal)
  ∧ IdealRules.named_const.Statement Cert.KernelIdeal.κ "slope8" .f32 0x3D3504F3#32 (((Real.sqrt 512)⁻¹ : ℝ) : EReal)
  ∧ IdealRules.named_const.Statement Cert.KernelIdeal.κ "slope10" .f32 0x3CB504F3#32 (((Real.sqrt 2048)⁻¹ : ℝ) : EReal)
  ∧ IdealRules.named_const.Statement Cert.KernelIdeal.κ "slope12" .f32 0x3C3504F3#32 (((Real.sqrt 8192)⁻¹ : ℝ) : EReal)
  ∧ IdealRules.named_const.Statement Cert.KernelIdeal.κ "slope14" .f32 0x3BB504F3#32 (((Real.sqrt 32768)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)) (v3 : (c : Dev Cert.Kernel2Ideal.nD) → Buf (Elt Ideal) ((c.tc : Thread Cert.Kernel2Ideal.nD Cert.Kernel2Ideal.τ).loc Cert.Kernel2Ideal.main_v9_3)) (v4 : (c : Dev Cert.Kernel2Ideal.nD) → Buf (Elt Ideal) ((c.tc : Thread Cert.Kernel2Ideal.nD Cert.Kernel2Ideal.τ).loc Cert.Kernel2Ideal.main_v9_4)) (v5 : (c : Dev Cert.Kernel2Ideal.nD) → Buf (Elt Ideal) ((c.tc : Thread Cert.Kernel2Ideal.nD Cert.Kernel2Ideal.τ).loc Cert.Kernel2Ideal.main_v9_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_v9_3) = v3 c
          ∧ r.2.mem ((c.tc : Thread Cert.Kernel2Ideal.nD Cert.Kernel2Ideal.τ).loc Cert.Kernel2Ideal.main_v9_4) = v4 c
          ∧ r.2.mem ((c.tc : Thread Cert.Kernel2Ideal.nD Cert.Kernel2Ideal.τ).loc Cert.Kernel2Ideal.main_v9_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_v22) = v2 c
          ∧ r.2.mem ((c.tc : Thread Cert.Reference2Ideal.nD Cert.Reference2Ideal.τ).loc Cert.Reference2Ideal.main_v23) = v3 c
          ∧ r.2.mem ((c.tc : Thread Cert.Reference2Ideal.nD Cert.Reference2Ideal.τ).loc Cert.Reference2Ideal.main_v24) = v4 c
          ∧ r.2.mem ((c.tc : Thread Cert.Reference2Ideal.nD Cert.Reference2Ideal.τ).loc Cert.Reference2Ideal.main_v27) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v14_0)) (v1 : (c : Dev Cert.Kernel5Ideal.nD) → Buf (Elt Ideal) ((c.tc : Thread Cert.Kernel5Ideal.nD Cert.Kernel5Ideal.τ).loc Cert.Kernel5Ideal.main_v14_1)) (v2 : (c : Dev Cert.Kernel5Ideal.nD) → Buf (Elt Ideal) ((c.tc : Thread Cert.Kernel5Ideal.nD Cert.Kernel5Ideal.τ).loc Cert.Kernel5Ideal.main_v14_2)) (v3 : (c : Dev Cert.Kernel5Ideal.nD) → Buf (Elt Ideal) ((c.tc : Thread Cert.Kernel5Ideal.nD Cert.Kernel5Ideal.τ).loc Cert.Kernel5Ideal.main_v14_3)) (v4 : (c : Dev Cert.Kernel5Ideal.nD) → Buf (Elt Ideal) ((c.tc : Thread Cert.Kernel5Ideal.nD Cert.Kernel5Ideal.τ).loc Cert.Kernel5Ideal.main_v14_4)) (v5 : (c : Dev Cert.Kernel5Ideal.nD) → Buf (Elt Ideal) ((c.tc : Thread Cert.Kernel5Ideal.nD Cert.Kernel5Ideal.τ).loc Cert.Kernel5Ideal.main_v14_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14_0) = v0 c
          ∧ r.2.mem ((c.tc : Thread Cert.Kernel5Ideal.nD Cert.Kernel5Ideal.τ).loc Cert.Kernel5Ideal.main_v14_1) = v1 c
          ∧ r.2.mem ((c.tc : Thread Cert.Kernel5Ideal.nD Cert.Kernel5Ideal.τ).loc Cert.Kernel5Ideal.main_v14_2) = v2 c
          ∧ r.2.mem ((c.tc : Thread Cert.Kernel5Ideal.nD Cert.Kernel5Ideal.τ).loc Cert.Kernel5Ideal.main_v14_3) = v3 c
          ∧ r.2.mem ((c.tc : Thread Cert.Kernel5Ideal.nD Cert.Kernel5Ideal.τ).loc Cert.Kernel5Ideal.main_v14_4) = v4 c
          ∧ r.2.mem ((c.tc : Thread Cert.Kernel5Ideal.nD Cert.Kernel5Ideal.τ).loc Cert.Kernel5Ideal.main_v14_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_v29) = v2 c
          ∧ r.2.mem ((c.tc : Thread Cert.Reference5Ideal.nD Cert.Reference5Ideal.τ).loc Cert.Reference5Ideal.main_v30) = v3 c
          ∧ r.2.mem ((c.tc : Thread Cert.Reference5Ideal.nD Cert.Reference5Ideal.τ).loc Cert.Reference5Ideal.main_v31) = v4 c
          ∧ r.2.mem ((c.tc : Thread Cert.Reference5Ideal.nD Cert.Reference5Ideal.τ).loc Cert.Reference5Ideal.main_v33) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)) (v2 : (c : Dev Cert.Kernel6Ideal.nD) → Buf (Elt Ideal) ((c.tc : Thread Cert.Kernel6Ideal.nD Cert.Kernel6Ideal.τ).loc Cert.Kernel6Ideal.main_v8_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_v8_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v122) = v0 c
          ∧ r.2.mem ((c.tc : Thread Cert.Reference6Ideal.nD Cert.Reference6Ideal.τ).loc Cert.Reference6Ideal.main_v32) = v1 c
          ∧ r.2.mem ((c.tc : Thread Cert.Reference6Ideal.nD Cert.Reference6Ideal.τ).loc Cert.Reference6Ideal.main_v124) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_scores.lean ====
abbrev S2x16384x1024 : Shape := ⟨3, ![2, 16384, 1024]⟩
abbrev S2x16384x256 : Shape := ⟨3, ![2, 16384, 256]⟩
abbrev S16 : Shape := ⟨1, ![16]⟩
abbrev S1024 : Shape := ⟨1, ![1024]⟩
abbrev S_ : Shape := ⟨0, ![]⟩

class Facts : Prop where
  bitsLt_bf16_f32 : FTy.bits .bf16 < FTy.bits .f32
  bcast_S_S2x16384x1024 : S_.BroadcastsInDim S2x16384x1024 (![] : Fin 0 → Fin S2x16384x1024.rank)
  bcast_S_S2x16384x256 : S_.BroadcastsInDim S2x16384x256 (![] : Fin 0 → Fin S2x16384x256.rank)
  bcast_S_S16 : S_.BroadcastsInDim S16 (![] : Fin 0 → Fin S16.rank)

variable [Facts]

def fn {F : FTy → Type} [FloatOps F] (main_arg0 : FVec F S2x16384x1024 .bf16) (main_arg1 : FVec F S2x16384x256 .f32) (main_arg2 : FVec F S2x16384x256 .f32) (main_arg3 : FVec F S16 .f32) (main_arg4 : FVec F S1024 .f32) : IVec S2x16384x1024 1 × IVec S2x16384x256 1 × IVec S16 1 :=
  let main_v0 : FVec F S2x16384x1024 .f32 := (extf .f32 · bitsLt_bf16_f32) main_arg0
  let main_v1 : FVec F S2x16384x1024 .f32 := Host.absf main_v0
  let main_cst : FVec F S_ .f32 := constant S_ .f32 0x7F800000#32
  let main_v2 : FVec F S2x16384x1024 .f32 := broadcastInDim S2x16384x1024 ![] bcast_S_S2x16384x1024 main_cst
  let main_v3 : IVec S2x16384x1024 1 := cmpf .olt main_v1 main_v2
  let main_v4 : FVec F S2x16384x256 .f32 := Host.absf main_arg1
  let main_cst_0 : FVec F S_ .f32 := constant S_ .f32 0x7F800000#32
  let main_v5 : FVec F S2x16384x256 .f32 := broadcastInDim S2x16384x256 ![] bcast_S_S2x16384x256 main_cst_0
  let main_v6 : IVec S2x16384x256 1 := cmpf .olt main_v4 main_v5
  let main_v7 : FVec F S16 .f32 := Host.absf main_arg3
  let main_cst_1 : FVec F S_ .f32 := constant S_ .f32 0x7F800000#32
  let main_v8 : FVec F S16 .f32 := broadcastInDim S16 ![] bcast_S_S16 main_cst_1
  let main_v9 : IVec S16 1 := cmpf .olt main_v7 main_v8
  (main_v3, main_v6, main_v9)
-- ==== Kernel.lean ====
abbrev S2x16384x1024 : Shape := ⟨3, ![2, 16384, 1024]⟩
abbrev S2x16384x256 : Shape := ⟨3, ![2, 16384, 256]⟩
abbrev S16 : Shape := ⟨1, ![16]⟩
abbrev S1024 : Shape := ⟨1, ![1024]⟩
abbrev S1x1024 : Shape := ⟨2, ![1, 1024]⟩
abbrev S1x256x1024 : Shape := ⟨3, ![1, 256, 1024]⟩
abbrev S1x128x256 : Shape := ⟨3, ![1, 128, 256]⟩
abbrev S1x256x256 : Shape := ⟨3, ![1, 256, 256]⟩
abbrev S256x384 : Shape := ⟨2, ![256, 384]⟩
abbrev S256x1024 : Shape := ⟨2, ![256, 1024]⟩
abbrev S1x128x64 : Shape := ⟨3, ![1, 128, 64]⟩
abbrev S128x64 : Shape := ⟨2, ![128, 64]⟩
abbrev S1x256x64 : Shape := ⟨3, ![1, 256, 64]⟩
abbrev S256x64 : Shape := ⟨2, ![256, 64]⟩
abbrev S384x64 : Shape := ⟨2, ![384, 64]⟩
abbrev S1 : Shape := ⟨1, ![1]⟩
abbrev S256 : Shape := ⟨1, ![256]⟩
abbrev S256x1 : Shape := ⟨2, ![256, 1]⟩

abbrev nBuf : Space → Nat
  | .hbm => 7
  | .vmem => 13
  | .smem => 1
  | _ => 0

abbrev bufTy : (tb : Table) → Fin (tcTables nBuf tb) → BufTy
  | .hbm, ⟨0, _⟩ => ⟨S2x16384x1024, .bf16⟩
  | .hbm, ⟨1, _⟩ => ⟨S2x16384x256, .f32⟩
  | .hbm, ⟨2, _⟩ => ⟨S2x16384x256, .f32⟩
  | .hbm, ⟨3, _⟩ => ⟨S16, .f32⟩
  | .hbm, ⟨4, _⟩ => ⟨S1024, .f32⟩
  | .hbm, ⟨5, _⟩ => ⟨S1x1024, .f32⟩
  | .hbm, ⟨6, _⟩ => ⟨S2x16384x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x128x256, .f32⟩
  | .local _ .vmem, ⟨3, _⟩ => ⟨S1x128x256, .f32⟩
  | .local _ .vmem, ⟨4, _⟩ => ⟨S1x256x256, .f32⟩
  | .local _ .vmem, ⟨5, _⟩ => ⟨S1x256x256, .f32⟩
  | .local _ .vmem, ⟨6, _⟩ => ⟨S1x128x256, .f32⟩
  | .local _ .vmem, ⟨7, _⟩ => ⟨S1x128x256, .f32⟩
  | .local _ .vmem, ⟨8, _⟩ => ⟨S1x256x256, .f32⟩
  | .local _ .vmem, ⟨9, _⟩ => ⟨S1x256x256, .f32⟩
  | .local _ .vmem, ⟨10, _⟩ => ⟨S1x1024, .f32⟩
  | .local _ .vmem, ⟨11, _⟩ => ⟨S1x256x1024, .bf16⟩
  | .local _ .vmem, ⟨12, _⟩ => ⟨S1x256x1024, .bf16⟩
  | .local _ .smem, ⟨0, _⟩ => ⟨S16, .f32⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "slope0" => some (((Real.sqrt 2)⁻¹ : ℝ) : EReal)
  | "slope10" => some (((Real.sqrt 2048)⁻¹ : ℝ) : EReal)
  | "slope12" => some (((Real.sqrt 8192)⁻¹ : ℝ) : EReal)
  | "slope14" => some (((Real.sqrt 32768)⁻¹ : ℝ) : EReal)
  | "slope2" => some (((Real.sqrt 8)⁻¹ : ℝ) : EReal)
  | "slope4" => some (((Real.sqrt 32)⁻¹ : ℝ) : EReal)
  | "slope6" => some (((Real.sqrt 128)⁻¹ : ℝ) : EReal)
  | "slope8" => some (((Real.sqrt 512)⁻¹ : ℝ) : EReal)
  | _ => none
-- ==== ReferenceIdeal.lean ====
abbrev S2x16384x1024 : Shape := ⟨3, ![2, 16384, 1024]⟩
abbrev S2x16384x256 : Shape := ⟨3, ![2, 16384, 256]⟩
abbrev S16 : Shape := ⟨1, ![16]⟩
abbrev S1024 : Shape := ⟨1, ![1024]⟩
abbrev S2x256x64x4x4x64 : Shape := ⟨6, ![2, 256, 64, 4, 4, 64]⟩
abbrev S2x256x64x4x64 : Shape := ⟨5, ![2, 256, 64, 4, 64]⟩
abbrev S_ : Shape := ⟨0, ![]⟩
abbrev S2x258x64x4x64 : Shape := ⟨5, ![2, 258, 64, 4, 64]⟩
abbrev S2x256x192x4x64 : Shape := ⟨5, ![2, 256, 192, 4, 64]⟩
abbrev S2x256x4x192x64x4 : Shape := ⟨6, ![2, 256, 4, 192, 64, 4]⟩
abbrev S2x256x4x4x64x192 : Shape := ⟨6, ![2, 256, 4, 4, 64, 192]⟩
abbrev S64 : Shape := ⟨1, ![64]⟩
abbrev S192 : Shape := ⟨1, ![192]⟩
abbrev S64x1 : Shape := ⟨2, ![64, 1]⟩
abbrev S1x192 : Shape := ⟨2, ![1, 192]⟩
abbrev S64x192 : Shape := ⟨2, ![64, 192]⟩
abbrev S4x4x1x1 : Shape := ⟨4, ![4, 4, 1, 1]⟩
abbrev S1x1x64x192 : Shape := ⟨4, ![1, 1, 64, 192]⟩
abbrev S4x4x64x192 : Shape := ⟨4, ![4, 4, 64, 192]⟩
abbrev S256 : Shape := ⟨1, ![256]⟩
abbrev S256x1 : Shape := ⟨2, ![256, 1]⟩
abbrev S256x192 : Shape := ⟨2, ![256, 192]⟩
abbrev S1x256x1x1x1x192 : Shape := ⟨6, ![1, 256, 1, 1, 1, 192]⟩
abbrev S1x1x4x4x64x192 : Shape := ⟨6, ![1, 1, 4, 4, 64, 192]⟩
abbrev S1x1x4x4x1x1 : Shape := ⟨6, ![1, 1, 4, 4, 1, 1]⟩
abbrev S2x256x4x4x64 : Shape := ⟨5, ![2, 256, 4, 4, 64]⟩
abbrev S2x256x4x4x64x1 : Shape := ⟨6, ![2, 256, 4, 4, 64, 1]⟩
abbrev S2x256x4x64x4x64 : Shape := ⟨6, ![2, 256, 4, 64, 4, 64]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 136
  | .vmem => 0
  | .smem => 0
  | _ => 0

abbrev hbmTy0_0 (i : Nat) : BufTy := match i % 128 with
  | 0 => ⟨S2x16384x1024, .bf16⟩
  | 1 => ⟨S2x16384x256, .f32⟩
  | 2 => ⟨S2x16384x256, .f32⟩
  | 3 => ⟨S16, .f32⟩
  | 4 => ⟨S1024, .f32⟩
  | 5 => ⟨S2x16384x1024, .f32⟩
  | 6 => ⟨S2x256x64x4x4x64, .f32⟩
  | 7 => ⟨S2x256x64x4x64, .f32⟩
  | 8 => ⟨S_, .i32⟩
  | 9 => ⟨S_, .f32⟩
  | 10 => ⟨S2x258x64x4x64, .f32⟩
  | 11 => ⟨S2x256x64x4x64, .f32⟩
  | 12 => ⟨S2x256x64x4x64, .f32⟩
  | 13 => ⟨S2x256x64x4x64, .f32⟩
  | 14 => ⟨S2x256x192x4x64, .f32⟩
  | 15 => ⟨S2x256x64x4x64, .f32⟩
  | 16 => ⟨S_, .i32⟩
  | 17 => ⟨S_, .f32⟩
  | 18 => ⟨S2x258x64x4x64, .f32⟩
  | 19 => ⟨S2x256x64x4x64, .f32⟩
  | 20 => ⟨S2x256x64x4x64, .f32⟩
  | 21 => ⟨S2x256x64x4x64, .f32⟩
  | 22 => ⟨S2x256x192x4x64, .f32⟩
  | 23 => ⟨S2x256x4x192x64x4, .f32⟩
  | 24 => ⟨S2x256x4x4x64x192, .f32⟩
  | 25 => ⟨S_, .f32⟩
  | 26 => ⟨S2x256x4x4x64x192, .f32⟩
  | 27 => ⟨S2x256x4x4x64x192, .f32⟩
  | 28 => ⟨S64, .i32⟩
  | 29 => ⟨S192, .i32⟩
  | 30 => ⟨S64x1, .i32⟩
  | 31 => ⟨S_, .i32⟩
  | 32 => ⟨S64x1, .i32⟩
  | 33 => ⟨S64x1, .i32⟩
  | 34 => ⟨S1x192, .i32⟩
  | 35 => ⟨S64x192, .i32⟩
  | 36 => ⟨S64x192, .i32⟩
  | 37 => ⟨S64x192, .i32⟩
  | 38 => ⟨S64x192, .i32⟩
  | 39 => ⟨S64x192, .f32⟩
  | 40 => ⟨S16, .f32⟩
  | 41 => ⟨S_, .f32⟩
  | 42 => ⟨S16, .f32⟩
  | 43 => ⟨S16, .f32⟩
  | 44 => ⟨S_, .f32⟩
  | 45 => ⟨S16, .f32⟩
  | 46 => ⟨S16, .f32⟩
  | 47 => ⟨S_, .f32⟩
  | 48 => ⟨S16, .f32⟩
  | 49 => ⟨S16, .f32⟩
  | 50 => ⟨S_, .f32⟩
  | 51 => ⟨S16, .f32⟩
  | 52 => ⟨S16, .f32⟩
  | 53 => ⟨S4x4x1x1, .f32⟩
  | 54 => ⟨S4x4x1x1, .f32⟩
  | 55 => ⟨S1x1x64x192, .f32⟩
  | 56 => ⟨S4x4x64x192, .f32⟩
  | 57 => ⟨S4x4x64x192, .f32⟩
  | 58 => ⟨S4x4x64x192, .f32⟩
  | 59 => ⟨S256, .i32⟩
  | 60 => ⟨S256x1, .i32⟩
  | 61 => ⟨S_, .i32⟩
  | 62 => ⟨S256x1, .i32⟩
  | 63 => ⟨S256x1, .i32⟩
  | 64 => ⟨S1x192, .i32⟩
  | 65 => ⟨S_, .i32⟩
  | 66 => ⟨S_, .i32⟩
  | 67 => ⟨S1x192, .i32⟩
  | 68 => ⟨S1x192, .i32⟩
  | 69 => ⟨S1x192, .i32⟩
  | 70 => ⟨S_, .i32⟩
  | 71 => ⟨S1x192, .i32⟩
  | 72 => ⟨S1x192, .i1⟩
  | 73 => ⟨S1x192, .i32⟩
  | 74 => ⟨S1x192, .i32⟩
  | 75 => ⟨S_, .i32⟩
  | 76 => ⟨S1x192, .i32⟩
  | 77 => ⟨S1x192, .i1⟩
  | 78 => ⟨S1x192, .i1⟩
  | 79 => ⟨S_, .i32⟩
  | 80 => ⟨S1x192, .i32⟩
  | 81 => ⟨S1x192, .i32⟩
  | 82 => ⟨S1x192, .i32⟩
  | 83 => ⟨S256x192, .i32⟩
  | 84 => ⟨S256x192, .i32⟩
  | 85 => ⟨S256x192, .i32⟩
  | 86 => ⟨S_, .i32⟩
  | 87 => ⟨S256x192, .i32⟩
  | 88 => ⟨S256x192, .i1⟩
  | 89 => ⟨S1x256x1x1x1x192, .i1⟩
  | 90 => ⟨S1x1x4x4x64x192, .f32⟩
  | 91 => ⟨S2x256x4x4x64x192, .f32⟩
  | 92 => ⟨S2x256x4x4x64x192, .f32⟩
  | 93 => ⟨S_, .f32⟩
  | 94 => ⟨S_, .f32⟩
  | 95 => ⟨S2x256x4x4x64x192, .i1⟩
  | 96 => ⟨S2x256x4x4x64x192, .f32⟩
  | 97 => ⟨S2x256x4x4x64x192, .f32⟩
  | 98 => ⟨S1x1x4x4x1x1, .f32⟩
  | 99 => ⟨S_, .f32⟩
  | 100 => ⟨S2x256x4x4x64, .f32⟩
  | 101 => ⟨S2x256x4x4x64x1, .f32⟩
  | 102 => ⟨S2x256x4x4x64x1, .f32⟩
  | 103 => ⟨S2x256x4x4x64x1, .f32⟩
  | 104 => ⟨S2x256x4x4x64x192, .f32⟩
  | 105 => ⟨S2x256x4x4x64x192, .f32⟩
  | 106 => ⟨S2x256x4x4x64x192, .f32⟩
  | 107 => ⟨S_, .f32⟩
  | 108 => ⟨S2x256x4x4x64, .f32⟩
  | 109 => ⟨S2x256x4x4x64x1, .f32⟩
  | 110 => ⟨S2x256x4x4x64x1, .f32⟩
  | 111 => ⟨S2x256x4x4x64x1, .f32⟩
  | 112 => ⟨S2x256x4x4x64x1, .f32⟩
  | 113 => ⟨S2x256x4x4x64x1, .f32⟩
  | 114 => ⟨S2x256x4x4x64x192, .f32⟩
  | 115 => ⟨S2x256x4x4x64x192, .f32⟩
  | 116 => ⟨S2x256x4x64x4x64, .f32⟩
  | 117 => ⟨S2x256x64x4x4x64, .f32⟩
  | 118 => ⟨S2x16384x1024, .f32⟩
  | 119 => ⟨S2x16384x1024, .f32⟩
  | 120 => ⟨S_, .f32⟩
  | 121 => ⟨S2x16384, .f32⟩
  | 122 => ⟨S2x16384x1, .f32⟩
  | 123 => ⟨S_, .f32⟩
  | 124 => ⟨S2x16384x1, .f32⟩
  | 125 => ⟨S2x16384x1, .f32⟩
  | 126 => ⟨S_, .f32⟩
  | 127 => ⟨S2x16384x1, .f32⟩
  | _ => ⟨S2x16384x1024, .bf16⟩

abbrev hbmTy0_1 (i : Nat) : BufTy := match i % 128 with
  | 0 => ⟨S2x16384x1, .f32⟩
  | 1 => ⟨S2x16384x1, .f32⟩
  | 2 => ⟨S2x16384x1024, .f32⟩
  | 3 => ⟨S2x16384x1024, .f32⟩
  | 4 => ⟨S1x1x1024, .f32⟩
  | 5 => ⟨S2x16384x1024, .f32⟩
  | 6 => ⟨S2x16384x1024, .f32⟩
  | 7 => ⟨S2x16384x1024, .bf16⟩
  | _ => ⟨S2x16384x1024, .bf16⟩

abbrev hbmTy (i : Nat) : BufTy := match i / 128 with
  | 0 => hbmTy0_0 i
  | 1 => hbmTy0_1 i
  | _ => ⟨S2x16384x1024, .bf16⟩

abbrev bufTy : (tb : Table) → Fin (tcTables nBuf tb) → BufTy
  | .hbm, ⟨i, _⟩ => hbmTy i
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_7 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_c : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_0 : Ref sig .tc := ⟨.hbm, 79, rfl⟩
abbrev main_call2_v12 : Ref sig .tc := ⟨.hbm, 80, rfl⟩
abbrev main_call2_v13 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_8 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_9 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_v59 : Ref sig .tc := ⟨.hbm, 97, rfl⟩
abbrev main_v60 : Ref sig .tc := ⟨.hbm, 98, rfl⟩
abbrev main_cst_10 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_11 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_12 : Ref sig .tc := ⟨.hbm, 120, rfl⟩
abbrev main_v80 : Ref sig .tc := ⟨.hbm, 121, rfl⟩
abbrev main_v81 : Ref sig .tc := ⟨.hbm, 122, rfl⟩
abbrev main_cst_13 : Ref sig .tc := ⟨.hbm, 123, rfl⟩
abbrev main_v82 : Ref sig .tc := ⟨.hbm, 124, rfl⟩
abbrev main_v83 : Ref sig .tc := ⟨.hbm, 125, rfl⟩
abbrev main_cst_14 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩

abbrev nD : Nat := 1
abbrev τ : Topo := Topo.v7x

variable {F : FTy → Type} [FloatOps F]
-- ==== Kernel2.lean ====
abbrev S2x16384x2048 : Shape := ⟨3, ![2, 16384, 2048]⟩
abbrev S2x1x2048 : Shape := ⟨3, ![2, 1, 2048]⟩
abbrev S2048 : Shape := ⟨1, ![2048]⟩
abbrev S2048x4624 : Shape := ⟨2, ![2048, 4624]⟩
abbrev S2048x16 : Shape := ⟨2, ![2048, 16]⟩
abbrev S_ : Shape := ⟨0, ![]⟩
abbrev S2048x128 : Shape := ⟨2, ![2048, 128]⟩
abbrev S2048x1024 : Shape := ⟨2, ![2048, 1024]⟩
abbrev S2048x256 : Shape := ⟨2, ![2048, 256]⟩
abbrev S2048x2048 : Shape := ⟨2, ![2048, 2048]⟩
abbrev S1x2048 : Shape := ⟨2, ![1, 2048]⟩
abbrev S2x16384x1024 : Shape := ⟨3, ![2, 16384, 1024]⟩
abbrev S2x16384x256 : Shape := ⟨3, ![2, 16384, 256]⟩
abbrev S2x16384x128 : Shape := ⟨3, ![2, 16384, 128]⟩
abbrev S1x256x2048 : Shape := ⟨3, ![1, 256, 2048]⟩
abbrev S1x1x2048 : Shape := ⟨3, ![1, 1, 2048]⟩
abbrev S1x256x1024 : Shape := ⟨3, ![1, 256, 1024]⟩
abbrev S1x256x256 : Shape := ⟨3, ![1, 256, 256]⟩
abbrev S1x256x128 : Shape := ⟨3, ![1, 256, 128]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x256 : Shape := ⟨2, ![256, 256]⟩
abbrev S256x128 : Shape := ⟨2, ![256, 128]⟩

abbrev nBuf : Space → Nat
  | .hbm => 22
  | .vmem => 25
  | .smem => 0
  | _ => 0

abbrev bufTy : (tb : Table) → Fin (tcTables nBuf tb) → BufTy
  | .hbm, ⟨0, _⟩ => ⟨S2x16384x2048, .f32⟩
  | .hbm, ⟨1, _⟩ => ⟨S2x1x2048, .f32⟩
  | .hbm, ⟨2, _⟩ => ⟨S2x1x2048, .f32⟩
  | .hbm, ⟨3, _⟩ => ⟨S2048, .f32⟩
  | .hbm, ⟨4, _⟩ => ⟨S2048x4624, .f32⟩
  | .hbm, ⟨5, _⟩ => ⟨S2048x4624, .bf16⟩
  | .hbm, ⟨6, _⟩ => ⟨S2048x16, .bf16⟩
  | .hbm, ⟨7, _⟩ => ⟨S_, .i32⟩
  | .hbm, ⟨8, _⟩ => ⟨S_, .bf16⟩
  | .hbm, ⟨9, _⟩ => ⟨S2048x128, .bf16⟩
  | .hbm, ⟨10, _⟩ => ⟨S2048x1024, .bf16⟩
  | .hbm, ⟨11, _⟩ => ⟨S2048x256, .bf16⟩
  | .hbm, ⟨12, _⟩ => ⟨S2048x256, .bf16⟩
  | .hbm, ⟨13, _⟩ => ⟨S2048x1024, .bf16⟩
  | .hbm, ⟨14, _⟩ => ⟨S2048x2048, .bf16⟩
  | .hbm, ⟨15, _⟩ => ⟨S1x2048, .f32⟩
  | .hbm, ⟨16, _⟩ => ⟨S2x16384x1024, .bf16⟩
  | .hbm, ⟨17, _⟩ => ⟨S2x16384x256, .f32⟩
  | .hbm, ⟨18, _⟩ => ⟨S2x16384x256, .f32⟩
  | .hbm, ⟨19, _⟩ => ⟨S2x16384x1024, .f32⟩
  | .hbm, ⟨20, _⟩ => ⟨S2x16384x2048, .f32⟩
  | .hbm, ⟨21, _⟩ => ⟨S2x16384x128, .f32⟩
  | .local _ .vmem, ⟨0, _⟩ => ⟨S1x256x2048, .f32⟩
  | .local _ .vmem, ⟨1, _⟩ => ⟨S1x256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x1024, .bf16⟩
  | .local _ .vmem, ⟨8, _⟩ => ⟨S2048x256, .bf16⟩
  | .local _ .vmem, ⟨9, _⟩ => ⟨S2048x256, .bf16⟩
  | .local _ .vmem, ⟨10, _⟩ => ⟨S2048x1024, .bf16⟩
  | .local _ .vmem, ⟨11, _⟩ => ⟨S2048x2048, .bf16⟩
  | .local _ .vmem, ⟨12, _⟩ => ⟨S2048x128, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x1024, .f32⟩
  | .local _ .vmem, ⟨20, _⟩ => ⟨S1x256x1024, .f32⟩
  | .local _ .vmem, ⟨21, _⟩ => ⟨S1x256x2048, .f32⟩
  | .local _ .vmem, ⟨22, _⟩ => ⟨S1x256x2048, .f32⟩
  | .local _ .vmem, ⟨23, _⟩ => ⟨S1x256x128, .f32⟩
  | .local _ .vmem, ⟨24, _⟩ => ⟨S1x256x128, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S2x16384x2048 : Shape := ⟨3, ![2, 16384, 2048]⟩
abbrev S2x1x2048 : Shape := ⟨3, ![2, 1, 2048]⟩
abbrev S2048 : Shape := ⟨1, ![2048]⟩
abbrev S2048x4624 : Shape := ⟨2, ![2048, 4624]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x4624 : Shape := ⟨3, ![2, 16384, 4624]⟩
abbrev S2x16384x1024 : Shape := ⟨3, ![2, 16384, 1024]⟩
abbrev S2x16384x256 : Shape := ⟨3, ![2, 16384, 256]⟩
abbrev S2x16384x16 : Shape := ⟨3, ![2, 16384, 16]⟩
abbrev S2x16384x128 : Shape := ⟨3, ![2, 16384, 128]⟩

abbrev nBuf : Space → Nat
  | .hbm => 39
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x1x2048, .f32⟩
  | .hbm, ⟨2, _⟩ => ⟨S2x1x2048, .f32⟩
  | .hbm, ⟨3, _⟩ => ⟨S2048, .f32⟩
  | .hbm, ⟨4, _⟩ => ⟨S2048x4624, .f32⟩
  | .hbm, ⟨5, _⟩ => ⟨S2x16384x2048, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x2048, .f32⟩
  | .hbm, ⟨17, _⟩ => ⟨S2x16384x2048, .f32⟩
  | .hbm, ⟨18, _⟩ => ⟨S1x1x2048, .f32⟩
  | .hbm, ⟨19, _⟩ => ⟨S2x16384x2048, .f32⟩
  | .hbm, ⟨20, _⟩ => ⟨S2x16384x2048, .f32⟩
  | .hbm, ⟨21, _⟩ => ⟨S_, .f32⟩
  | .hbm, ⟨22, _⟩ => ⟨S2x1x2048, .f32⟩
  | .hbm, ⟨23, _⟩ => ⟨S2x1x2048, .f32⟩
  | .hbm, ⟨24, _⟩ => ⟨S2x16384x2048, .f32⟩
  | .hbm, ⟨25, _⟩ => ⟨S2x16384x2048, .f32⟩
  | .hbm, ⟨26, _⟩ => ⟨S2x16384x2048, .f32⟩
  | .hbm, ⟨27, _⟩ => ⟨S2x16384x2048, .f32⟩
  | .hbm, ⟨28, _⟩ => ⟨S2x16384x4624, .f32⟩
  | .hbm, ⟨29, _⟩ => ⟨S2x16384x1024, .f32⟩
  | .hbm, ⟨30, _⟩ => ⟨S2x16384x256, .f32⟩
  | .hbm, ⟨31, _⟩ => ⟨S2x16384x256, .f32⟩
  | .hbm, ⟨32, _⟩ => ⟨S2x16384x1024, .f32⟩
  | .hbm, ⟨33, _⟩ => ⟨S2x16384x2048, .f32⟩
  | .hbm, ⟨34, _⟩ => ⟨S2x16384x16, .f32⟩
  | .hbm, ⟨35, _⟩ => ⟨S2x16384x1024, .bf16⟩
  | .hbm, ⟨36, _⟩ => ⟨S_, .i32⟩
  | .hbm, ⟨37, _⟩ => ⟨S_, .f32⟩
  | .hbm, ⟨38, _⟩ => ⟨S2x16384x128, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x16384x2048 : Shape := ⟨3, ![2, 16384, 2048]⟩
abbrev S2x1x2048 : Shape := ⟨3, ![2, 1, 2048]⟩
abbrev S2048 : Shape := ⟨1, ![2048]⟩
abbrev S2048x2048 : Shape := ⟨2, ![2048, 2048]⟩
abbrev S1x2048 : Shape := ⟨2, ![1, 2048]⟩
abbrev S1024x2048 : Shape := ⟨2, ![1024, 2048]⟩
abbrev S1x256x1024 : Shape := ⟨3, ![1, 256, 1024]⟩
abbrev S1x256x2048 : Shape := ⟨3, ![1, 256, 2048]⟩
abbrev S1x1x2048 : Shape := ⟨3, ![1, 1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 19
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S2x16384x2048, .f32⟩
  | .hbm, ⟨3, _⟩ => ⟨S2x1x2048, .f32⟩
  | .hbm, ⟨4, _⟩ => ⟨S2x1x2048, .f32⟩
  | .hbm, ⟨5, _⟩ => ⟨S2x1x2048, .f32⟩
  | .hbm, ⟨6, _⟩ => ⟨S2048, .f32⟩
  | .hbm, ⟨7, _⟩ => ⟨S2048x2048, .f32⟩
  | .hbm, ⟨8, _⟩ => ⟨S2048x2048, .bf16⟩
  | .hbm, ⟨9, _⟩ => ⟨S1x2048, .f32⟩
  | .hbm, ⟨10, _⟩ => ⟨S1024x2048, .bf16⟩
  | .hbm, ⟨11, _⟩ => ⟨S1024x2048, .bf16⟩
  | .hbm, ⟨12, _⟩ => ⟨S2x16384x2048, .f32⟩
  | .hbm, ⟨13, _⟩ => ⟨S2x16384x2048, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x2048, .f32⟩
  | .local _ .vmem, ⟨5, _⟩ => ⟨S1x256x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S1024x2048, .bf16⟩
  | .local _ .vmem, ⟨14, _⟩ => ⟨S1024x2048, .bf16⟩
  | .local _ .vmem, ⟨15, _⟩ => ⟨S1x256x2048, .f32⟩
  | .local _ .vmem, ⟨16, _⟩ => ⟨S1x256x2048, .f32⟩
  | .local _ .vmem, ⟨17, _⟩ => ⟨S1x256x2048, .bf16⟩
  | .local _ .vmem, ⟨18, _⟩ => ⟨S1x256x2048, .bf16⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S2x16384x1024 : Shape := ⟨3, ![2, 16384, 1024]⟩
abbrev S2x16384x2048 : Shape := ⟨3, ![2, 16384, 2048]⟩
abbrev S2x1x2048 : Shape := ⟨3, ![2, 1, 2048]⟩
abbrev S2048 : Shape := ⟨1, ![2048]⟩
abbrev S2048x2048 : Shape := ⟨2, ![2048, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S2x16384x2048, .f32⟩
  | .hbm, ⟨3, _⟩ => ⟨S2x1x2048, .f32⟩
  | .hbm, ⟨4, _⟩ => ⟨S2x1x2048, .f32⟩
  | .hbm, ⟨5, _⟩ => ⟨S2x1x2048, .f32⟩
  | .hbm, ⟨6, _⟩ => ⟨S2048, .f32⟩
  | .hbm, ⟨7, _⟩ => ⟨S2048x2048, .f32⟩
  | .hbm, ⟨8, _⟩ => ⟨S2x16384x1024, .f32⟩
  | .hbm, ⟨9, _⟩ => ⟨S2x16384x1024, .f32⟩
  | .hbm, ⟨10, _⟩ => ⟨S2x16384x2048, .f32⟩
  | .hbm, ⟨11, _⟩ => ⟨S2x16384x2048, .f32⟩
  | .hbm, ⟨12, _⟩ => ⟨S2x16384x2048, .f32⟩
  | .hbm, ⟨13, _⟩ => ⟨S2x16384x2048, .f32⟩
  | .hbm, ⟨14, _⟩ => ⟨S2x16384x2048, .f32⟩
  | .hbm, ⟨15, _⟩ => ⟨S2x16384x2048, .f32⟩
  | .hbm, ⟨16, _⟩ => ⟨S_, .f32⟩
  | .hbm, ⟨17, _⟩ => ⟨S2x16384, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S_, .f32⟩
  | .hbm, ⟨23, _⟩ => ⟨S2x16384x1, .f32⟩
  | .hbm, ⟨24, _⟩ => ⟨S2x16384x1, .f32⟩
  | .hbm, ⟨25, _⟩ => ⟨S2x16384x1, .f32⟩
  | .hbm, ⟨26, _⟩ => ⟨S2x16384x2048, .f32⟩
  | .hbm, ⟨27, _⟩ => ⟨S2x16384x2048, .f32⟩
  | .hbm, ⟨28, _⟩ => ⟨S1x1x2048, .f32⟩
  | .hbm, ⟨29, _⟩ => ⟨S2x16384x2048, .f32⟩
  | .hbm, ⟨30, _⟩ => ⟨S2x16384x2048, .f32⟩
  | .hbm, ⟨31, _⟩ => ⟨S_, .f32⟩
  | .hbm, ⟨32, _⟩ => ⟨S2x1x2048, .f32⟩
  | .hbm, ⟨33, _⟩ => ⟨S2x1x2048, .f32⟩
  | .hbm, ⟨34, _⟩ => ⟨S2x16384x2048, .f32⟩
  | .hbm, ⟨35, _⟩ => ⟨S2x16384x2048, .f32⟩
  | .hbm, ⟨36, _⟩ => ⟨S2x16384x2048, .f32⟩
  | .hbm, ⟨37, _⟩ => ⟨S2x16384x2048, .f32⟩
  | .hbm, ⟨38, _⟩ => ⟨S2x16384x2048, .bf16⟩
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Kernel4.lean ====
abbrev S32x2048 : Shape := ⟨2, ![32, 2048]⟩
abbrev S2048x12288 : Shape := ⟨2, ![2048, 12288]⟩
abbrev S12288 : Shape := ⟨1, ![12288]⟩
abbrev S1x12288 : Shape := ⟨2, ![1, 12288]⟩
abbrev S32x12288 : Shape := ⟨2, ![32, 12288]⟩
abbrev S2048x1536 : Shape := ⟨2, ![2048, 1536]⟩
abbrev S1x1536 : Shape := ⟨2, ![1, 1536]⟩
abbrev S32x1536 : Shape := ⟨2, ![32, 1536]⟩

abbrev nBuf : Space → Nat
  | .hbm => 5
  | .vmem => 7
  | .smem => 0
  | _ => 0

abbrev bufTy : (tb : Table) → Fin (tcTables nBuf tb) → BufTy
  | .hbm, ⟨0, _⟩ => ⟨S32x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S32x12288, .f32⟩
  | .local _ .vmem, ⟨0, _⟩ => ⟨S32x2048, .f32⟩
  | .local _ .vmem, ⟨1, _⟩ => ⟨S2048x1536, .f32⟩
  | .local _ .vmem, ⟨2, _⟩ => ⟨S2048x1536, .f32⟩
  | .local _ .vmem, ⟨3, _⟩ => ⟨S1x1536, .f32⟩
  | .local _ .vmem, ⟨4, _⟩ => ⟨S1x1536, .f32⟩
  | .local _ .vmem, ⟨5, _⟩ => ⟨S32x1536, .f32⟩
  | .local _ .vmem, ⟨6, _⟩ => ⟨S32x1536, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S32x2048 : Shape := ⟨2, ![32, 2048]⟩
abbrev S2048x12288 : Shape := ⟨2, ![2048, 12288]⟩
abbrev S12288 : Shape := ⟨1, ![12288]⟩
abbrev S_ : Shape := ⟨0, ![]⟩
abbrev S32x12288 : Shape := ⟨2, ![32, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048x12288, .f32⟩
  | .hbm, ⟨2, _⟩ => ⟨S12288, .f32⟩
  | .hbm, ⟨3, _⟩ => ⟨S32x2048, .f32⟩
  | .hbm, ⟨4, _⟩ => ⟨S32x2048, .f32⟩
  | .hbm, ⟨5, _⟩ => ⟨S_, .f32⟩
  | .hbm, ⟨6, _⟩ => ⟨S32x2048, .f32⟩
  | .hbm, ⟨7, _⟩ => ⟨S32x2048, .f32⟩
  | .hbm, ⟨8, _⟩ => ⟨S_, .f32⟩
  | .hbm, ⟨9, _⟩ => ⟨S32x2048, .f32⟩
  | .hbm, ⟨10, _⟩ => ⟨S32x2048, .f32⟩
  | .hbm, ⟨11, _⟩ => ⟨S32x2048, .f32⟩
  | .hbm, ⟨12, _⟩ => ⟨S32x12288, .f32⟩
  | .hbm, ⟨13, _⟩ => ⟨S1x12288, .f32⟩
  | .hbm, ⟨14, _⟩ => ⟨S32x12288, .f32⟩
  | .hbm, ⟨15, _⟩ => ⟨S32x12288, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel5.lean ====
abbrev S16x32x2048 : Shape := ⟨3, ![16, 32, 2048]⟩
abbrev S16x1x2048 : Shape := ⟨3, ![16, 1, 2048]⟩
abbrev S2048 : Shape := ⟨1, ![2048]⟩
abbrev S2048x4624 : Shape := ⟨2, ![2048, 4624]⟩
abbrev S1x512x2048 : Shape := ⟨3, ![1, 512, 2048]⟩
abbrev S2048x16 : Shape := ⟨2, ![2048, 16]⟩
abbrev S_ : Shape := ⟨0, ![]⟩
abbrev S2048x128 : Shape := ⟨2, ![2048, 128]⟩
abbrev S2048x1024 : Shape := ⟨2, ![2048, 1024]⟩
abbrev S2048x256 : Shape := ⟨2, ![2048, 256]⟩
abbrev S2048x2048 : Shape := ⟨2, ![2048, 2048]⟩
abbrev S1x2048 : Shape := ⟨2, ![1, 2048]⟩
abbrev S1x512x1024 : Shape := ⟨3, ![1, 512, 1024]⟩
abbrev S1x512x256 : Shape := ⟨3, ![1, 512, 256]⟩
abbrev S1x512x128 : Shape := ⟨3, ![1, 512, 128]⟩
abbrev S1x256x2048 : Shape := ⟨3, ![1, 256, 2048]⟩
abbrev S1x256x1024 : Shape := ⟨3, ![1, 256, 1024]⟩
abbrev S1x256x256 : Shape := ⟨3, ![1, 256, 256]⟩
abbrev S1x256x128 : Shape := ⟨3, ![1, 256, 128]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x256 : Shape := ⟨2, ![256, 256]⟩
abbrev S256x128 : Shape := ⟨2, ![256, 128]⟩

abbrev nBuf : Space → Nat
  | .hbm => 27
  | .vmem => 25
  | .smem => 0
  | _ => 0

abbrev bufTy : (tb : Table) → Fin (tcTables nBuf tb) → BufTy
  | .hbm, ⟨0, _⟩ => ⟨S16x32x2048, .f32⟩
  | .hbm, ⟨1, _⟩ => ⟨S16x1x2048, .f32⟩
  | .hbm, ⟨2, _⟩ => ⟨S16x1x2048, .f32⟩
  | .hbm, ⟨3, _⟩ => ⟨S2048, .f32⟩
  | .hbm, ⟨4, _⟩ => ⟨S2048x4624, .f32⟩
  | .hbm, ⟨5, _⟩ => ⟨S1x512x2048, .f32⟩
  | .hbm, ⟨6, _⟩ => ⟨S16x32x2048, .f32⟩
  | .hbm, ⟨7, _⟩ => ⟨S1x512x2048, .f32⟩
  | .hbm, ⟨8, _⟩ => ⟨S16x32x2048, .f32⟩
  | .hbm, ⟨9, _⟩ => ⟨S1x512x2048, .f32⟩
  | .hbm, ⟨10, _⟩ => ⟨S2048x4624, .bf16⟩
  | .hbm, ⟨11, _⟩ => ⟨S2048x16, .bf16⟩
  | .hbm, ⟨12, _⟩ => ⟨S_, .i32⟩
  | .hbm, ⟨13, _⟩ => ⟨S_, .bf16⟩
  | .hbm, ⟨14, _⟩ => ⟨S2048x128, .bf16⟩
  | .hbm, ⟨15, _⟩ => ⟨S2048x1024, .bf16⟩
  | .hbm, ⟨16, _⟩ => ⟨S2048x256, .bf16⟩
  | .hbm, ⟨17, _⟩ => ⟨S2048x256, .bf16⟩
  | .hbm, ⟨18, _⟩ => ⟨S2048x1024, .bf16⟩
  | .hbm, ⟨19, _⟩ => ⟨S2048x2048, .bf16⟩
  | .hbm, ⟨20, _⟩ => ⟨S1x2048, .f32⟩
  | .hbm, ⟨21, _⟩ => ⟨S1x512x1024, .bf16⟩
  | .hbm, ⟨22, _⟩ => ⟨S1x512x256, .f32⟩
  | .hbm, ⟨23, _⟩ => ⟨S1x512x256, .f32⟩
  | .hbm, ⟨24, _⟩ => ⟨S1x512x1024, .f32⟩
  | .hbm, ⟨25, _⟩ => ⟨S1x512x2048, .f32⟩
  | .hbm, ⟨26, _⟩ => ⟨S1x512x128, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x2048, .f32⟩
  | .local _ .vmem, ⟨7, _⟩ => ⟨S2048x1024, .bf16⟩
  | .local _ .vmem, ⟨8, _⟩ => ⟨S2048x256, .bf16⟩
  | .local _ .vmem, ⟨9, _⟩ => ⟨S2048x256, .bf16⟩
  | .local _ .vmem, ⟨10, _⟩ => ⟨S2048x1024, .bf16⟩
  | .local _ .vmem, ⟨11, _⟩ => ⟨S2048x2048, .bf16⟩
  | .local _ .vmem, ⟨12, _⟩ => ⟨S2048x128, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x1024, .f32⟩
  | .local _ .vmem, ⟨20, _⟩ => ⟨S1x256x1024, .f32⟩
  | .local _ .vmem, ⟨21, _⟩ => ⟨S1x256x2048, .f32⟩
  | .local _ .vmem, ⟨22, _⟩ => ⟨S1x256x2048, .f32⟩
  | .local _ .vmem, ⟨23, _⟩ => ⟨S1x256x128, .f32⟩
  | .local _ .vmem, ⟨24, _⟩ => ⟨S1x256x128, .f32⟩
  | _, _ => ⟨S16x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev main_v14_4 : Ref sig .tc := ⟨.hbm, 25, rfl⟩
abbrev main_v14_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference5Ideal.lean ====
abbrev S16x32x2048 : Shape := ⟨3, ![16, 32, 2048]⟩
abbrev S16x1x2048 : Shape := ⟨3, ![16, 1, 2048]⟩
abbrev S2048 : Shape := ⟨1, ![2048]⟩
abbrev S2048x4624 : Shape := ⟨2, ![2048, 4624]⟩
abbrev S_ : Shape := ⟨0, ![]⟩
abbrev S16x32 : Shape := ⟨2, ![16, 32]⟩
abbrev S16x32x1 : Shape := ⟨3, ![16, 32, 1]⟩
abbrev S1x1x2048 : Shape := ⟨3, ![1, 1, 2048]⟩
abbrev S16x32x4624 : Shape := ⟨3, ![16, 32, 4624]⟩
abbrev S16x32x1024 : Shape := ⟨3, ![16, 32, 1024]⟩
abbrev S16x32x256 : Shape := ⟨3, ![16, 32, 256]⟩
abbrev S16x32x16 : Shape := ⟨3, ![16, 32, 16]⟩
abbrev S1x512x1024 : Shape := ⟨3, ![1, 512, 1024]⟩
abbrev S1x512x256 : Shape := ⟨3, ![1, 512, 256]⟩
abbrev S1x512x2048 : Shape := ⟨3, ![1, 512, 2048]⟩
abbrev S1x512x16 : Shape := ⟨3, ![1, 512, 16]⟩
abbrev S1x512x128 : Shape := ⟨3, ![1, 512, 128]⟩

abbrev nBuf : Space → Nat
  | .hbm => 45
  | .vmem => 0
  | .smem => 0
  | _ => 0

abbrev bufTy : (tb : Table) → Fin (tcTables nBuf tb) → BufTy
  | .hbm, ⟨0, _⟩ => ⟨S16x32x2048, .f32⟩
  | .hbm, ⟨1, _⟩ => ⟨S16x1x2048, .f32⟩
  | .hbm, ⟨2, _⟩ => ⟨S16x1x2048, .f32⟩
  | .hbm, ⟨3, _⟩ => ⟨S2048, .f32⟩
  | .hbm, ⟨4, _⟩ => ⟨S2048x4624, .f32⟩
  | .hbm, ⟨5, _⟩ => ⟨S16x32x2048, .f32⟩
  | .hbm, ⟨6, _⟩ => ⟨S_, .f32⟩
  | .hbm, ⟨7, _⟩ => ⟨S16x32, .f32⟩
  | .hbm, ⟨8, _⟩ => ⟨S16x32x1, .f32⟩
  | .hbm, ⟨9, _⟩ => ⟨S_, .f32⟩
  | .hbm, ⟨10, _⟩ => ⟨S16x32x1, .f32⟩
  | .hbm, ⟨11, _⟩ => ⟨S16x32x1, .f32⟩
  | .hbm, ⟨12, _⟩ => ⟨S_, .f32⟩
  | .hbm, ⟨13, _⟩ => ⟨S16x32x1, .f32⟩
  | .hbm, ⟨14, _⟩ => ⟨S16x32x1, .f32⟩
  | .hbm, ⟨15, _⟩ => ⟨S16x32x1, .f32⟩
  | .hbm, ⟨16, _⟩ => ⟨S16x32x2048, .f32⟩
  | .hbm, ⟨17, _⟩ => ⟨S16x32x2048, .f32⟩
  | .hbm, ⟨18, _⟩ => ⟨S1x1x2048, .f32⟩
  | .hbm, ⟨19, _⟩ => ⟨S16x32x2048, .f32⟩
  | .hbm, ⟨20, _⟩ => ⟨S16x32x2048, .f32⟩
  | .hbm, ⟨21, _⟩ => ⟨S_, .f32⟩
  | .hbm, ⟨22, _⟩ => ⟨S16x1x2048, .f32⟩
  | .hbm, ⟨23, _⟩ => ⟨S16x1x2048, .f32⟩
  | .hbm, ⟨24, _⟩ => ⟨S16x32x2048, .f32⟩
  | .hbm, ⟨25, _⟩ => ⟨S16x32x2048, .f32⟩
  | .hbm, ⟨26, _⟩ => ⟨S16x32x2048, .f32⟩
  | .hbm, ⟨27, _⟩ => ⟨S16x32x2048, .f32⟩
  | .hbm, ⟨28, _⟩ => ⟨S16x32x4624, .f32⟩
  | .hbm, ⟨29, _⟩ => ⟨S16x32x1024, .f32⟩
  | .hbm, ⟨30, _⟩ => ⟨S16x32x256, .f32⟩
  | .hbm, ⟨31, _⟩ => ⟨S16x32x256, .f32⟩
  | .hbm, ⟨32, _⟩ => ⟨S16x32x1024, .f32⟩
  | .hbm, ⟨33, _⟩ => ⟨S16x32x2048, .f32⟩
  | .hbm, ⟨34, _⟩ => ⟨S16x32x16, .f32⟩
  | .hbm, ⟨35, _⟩ => ⟨S1x512x1024, .f32⟩
  | .hbm, ⟨36, _⟩ => ⟨S1x512x1024, .bf16⟩
  | .hbm, ⟨37, _⟩ => ⟨S1x512x256, .f32⟩
  | .hbm, ⟨38, _⟩ => ⟨S1x512x256, .f32⟩
  | .hbm, ⟨39, _⟩ => ⟨S1x512x1024, .f32⟩
  | .hbm, ⟨40, _⟩ => ⟨S1x512x2048, .f32⟩
  | .hbm, ⟨41, _⟩ => ⟨S1x512x16, .f32⟩
  | .hbm, ⟨42, _⟩ => ⟨S_, .i32⟩
  | .hbm, ⟨43, _⟩ => ⟨S_, .f32⟩
  | .hbm, ⟨44, _⟩ => ⟨S1x512x128, .f32⟩
  | _, _ => ⟨S16x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c : Ref sig .tc := ⟨.hbm, 42, rfl⟩
abbrev main_call0_v0 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel6.lean ====
abbrev S16x32x2048 : Shape := ⟨3, ![16, 32, 2048]⟩
abbrev S16x32x1024 : Shape := ⟨3, ![16, 32, 1024]⟩
abbrev S16x32x128 : Shape := ⟨3, ![16, 32, 128]⟩
abbrev S16x3x2048 : Shape := ⟨3, ![16, 3, 2048]⟩
abbrev S16x16x64x128 : Shape := ⟨4, ![16, 16, 64, 128]⟩
abbrev S4x2048 : Shape := ⟨2, ![4, 2048]⟩
abbrev S2048 : Shape := ⟨1, ![2048]⟩
abbrev S16 : Shape := ⟨1, ![16]⟩
abbrev S1024 : Shape := ⟨1, ![1024]⟩
abbrev S_ : Shape := ⟨0, ![]⟩
abbrev S16x8x2048 : Shape := ⟨3, ![16, 8, 2048]⟩
abbrev S16x16x128x64 : Shape := ⟨4, ![16, 16, 128, 64]⟩
abbrev S1x2048 : Shape := ⟨2, ![1, 2048]⟩
abbrev S1x16 : Shape := ⟨2, ![1, 16]⟩
abbrev S1x128 : Shape := ⟨2, ![1, 128]⟩
abbrev S1x1024 : Shape := ⟨2, ![1, 1024]⟩
abbrev S1x32x2048 : Shape := ⟨3, ![1, 32, 2048]⟩
abbrev S1x32x1024 : Shape := ⟨3, ![1, 32, 1024]⟩
abbrev S1x32x128 : Shape := ⟨3, ![1, 32, 128]⟩
abbrev S1x8x2048 : Shape := ⟨3, ![1, 8, 2048]⟩
abbrev S1x16x128x64 : Shape := ⟨4, ![1, 16, 128, 64]⟩
abbrev S40x2048 : Shape := ⟨2, ![40, 2048]⟩
abbrev S16x128x64 : Shape := ⟨3, ![16, 128, 64]⟩
abbrev S8x2048 : Shape := ⟨2, ![8, 2048]⟩
abbrev S32x2048 : Shape := ⟨2, ![32, 2048]⟩
abbrev S32x1024 : Shape := ⟨2, ![32, 1024]⟩
abbrev S32x512 : Shape := ⟨2, ![32, 512]⟩
abbrev S32x128 : Shape := ⟨2, ![32, 128]⟩
abbrev S32x32 : Shape := ⟨2, ![32, 32]⟩
abbrev S128x32 : Shape := ⟨2, ![128, 32]⟩
abbrev S32x1 : Shape := ⟨2, ![32, 1]⟩
abbrev S1x32 : Shape := ⟨2, ![1, 32]⟩
abbrev S32x64 : Shape := ⟨2, ![32, 64]⟩
abbrev S1x128x64 : Shape := ⟨3, ![1, 128, 64]⟩
abbrev S128x64 : Shape := ⟨2, ![128, 64]⟩
abbrev S1x1 : Shape := ⟨2, ![1, 1]⟩
abbrev S1 : Shape := ⟨1, ![1]⟩
abbrev S32 : Shape := ⟨1, ![32]⟩

abbrev nBuf : Space → Nat
  | .hbm => 28
  | .vmem => 23
  | .smem => 1
  | _ => 0

abbrev bufTy : (tb : Table) → Fin (tcTables nBuf tb) → BufTy
  | .hbm, ⟨0, _⟩ => ⟨S16x32x2048, .f32⟩
  | .hbm, ⟨1, _⟩ => ⟨S16x32x1024, .f32⟩
  | .hbm, ⟨2, _⟩ => ⟨S16x32x128, .f32⟩
  | .hbm, ⟨3, _⟩ => ⟨S16x3x2048, .f32⟩
  | .hbm, ⟨4, _⟩ => ⟨S16x16x64x128, .f32⟩
  | .hbm, ⟨5, _⟩ => ⟨S4x2048, .f32⟩
  | .hbm, ⟨6, _⟩ => ⟨S2048, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S1024, .f32⟩
  | .hbm, ⟨11, _⟩ => ⟨S_, .i32⟩
  | .hbm, ⟨12, _⟩ => ⟨S_, .f32⟩
  | .hbm, ⟨13, _⟩ => ⟨S16x8x2048, .f32⟩
  | .hbm, ⟨14, _⟩ => ⟨S16x16x128x64, .f32⟩
  | .hbm, ⟨15, _⟩ => ⟨S1x2048, .f32⟩
  | .hbm, ⟨16, _⟩ => ⟨S1x16, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S1x16, .f32⟩
  | .hbm, ⟨21, _⟩ => ⟨S_, .i32⟩
  | .hbm, ⟨22, _⟩ => ⟨S_, .f32⟩
  | .hbm, ⟨23, _⟩ => ⟨S1x128, .f32⟩
  | .hbm, ⟨24, _⟩ => ⟨S1x1024, .f32⟩
  | .hbm, ⟨25, _⟩ => ⟨S16x32x1024, .bf16⟩
  | .hbm, ⟨26, _⟩ => ⟨S16x8x2048, .f32⟩
  | .hbm, ⟨27, _⟩ => ⟨S16x16x128x64, .f32⟩
  | .local _ .vmem, ⟨0, _⟩ => ⟨S1x32x2048, .f32⟩
  | .local _ .vmem, ⟨1, _⟩ => ⟨S1x32x2048, .f32⟩
  | .local _ .vmem, ⟨2, _⟩ => ⟨S1x32x1024, .f32⟩
  | .local _ .vmem, ⟨3, _⟩ => ⟨S1x32x1024, .f32⟩
  | .local _ .vmem, ⟨4, _⟩ => ⟨S1x32x128, .f32⟩
  | .local _ .vmem, ⟨5, _⟩ => ⟨S1x32x128, .f32⟩
  | .local _ .vmem, ⟨6, _⟩ => ⟨S1x8x2048, .f32⟩
  | .local _ .vmem, ⟨7, _⟩ => ⟨S1x8x2048, .f32⟩
  | .local _ .vmem, ⟨8, _⟩ => ⟨S1x16x128x64, .f32⟩
  | .local _ .vmem, ⟨9, _⟩ => ⟨S1x16x128x64, .f32⟩
  | .local _ .vmem, ⟨10, _⟩ => ⟨S4x2048, .f32⟩
  | .local _ .vmem, ⟨11, _⟩ => ⟨S1x2048, .f32⟩
  | .local _ .vmem, ⟨12, _⟩ => ⟨S1x128, .f32⟩
  | .local _ .vmem, ⟨13, _⟩ => ⟨S1x128, .f32⟩
  | .local _ .vmem, ⟨14, _⟩ => ⟨S1x1024, .f32⟩
  | .local _ .vmem, ⟨15, _⟩ => ⟨S1x32x1024, .bf16⟩
  | .local _ .vmem, ⟨16, _⟩ => ⟨S1x32x1024, .bf16⟩
  | .local _ .vmem, ⟨17, _⟩ => ⟨S1x8x2048, .f32⟩
  | .local _ .vmem, ⟨18, _⟩ => ⟨S1x8x2048, .f32⟩
  | .local _ .vmem, ⟨19, _⟩ => ⟨S1x16x128x64, .f32⟩
  | .local _ .vmem, ⟨20, _⟩ => ⟨S1x16x128x64, .f32⟩
  | .local _ .vmem, ⟨21, _⟩ => ⟨S40x2048, .f32⟩
  | .local _ .vmem, ⟨22, _⟩ => ⟨S16x128x64, .f32⟩
  | .local _ .smem, ⟨0, _⟩ => ⟨S16, .f32⟩
  | _, _ => ⟨S16x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_call2_v0 : Ref sig .tc := ⟨.hbm, 22, rfl⟩
abbrev main_v6 : Ref sig .tc := ⟨.hbm, 23, rfl⟩
abbrev main_v7 : Ref sig .tc := ⟨.hbm, 24, rfl⟩
abbrev main_v8_0 : Ref sig .tc := ⟨.hbm, 25, rfl⟩
abbrev main_v8_1 : Ref sig .tc := ⟨.hbm, 26, rfl⟩
abbrev main_v8_2 : Ref sig .tc := ⟨.hbm, 27, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![16, 1], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x32x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x16x128x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference6Ideal.lean ====
abbrev S16x32x2048 : Shape := ⟨3, ![16, 32, 2048]⟩
abbrev S16x32x1024 : Shape := ⟨3, ![16, 32, 1024]⟩
abbrev S16x32x128 : Shape := ⟨3, ![16, 32, 128]⟩
abbrev S16x3x2048 : Shape := ⟨3, ![16, 3, 2048]⟩
abbrev S16x16x64x128 : Shape := ⟨4, ![16, 16, 64, 128]⟩
abbrev S4x2048 : Shape := ⟨2, ![4, 2048]⟩
abbrev S2048 : Shape := ⟨1, ![2048]⟩
abbrev S16 : Shape := ⟨1, ![16]⟩
abbrev S1024 : Shape := ⟨1, ![1024]⟩
abbrev S16x35x2048 : Shape := ⟨3, ![16, 35, 2048]⟩
abbrev S1x2048 : Shape := ⟨2, ![1, 2048]⟩
abbrev S1x1x2048 : Shape := ⟨3, ![1, 1, 2048]⟩
abbrev S_ : Shape := ⟨0, ![]⟩
abbrev S16x8x2048 : Shape := ⟨3, ![16, 8, 2048]⟩
abbrev S16x32x512 : Shape := ⟨3, ![16, 32, 512]⟩
abbrev S16x32x4x4x64 : Shape := ⟨5, ![16, 32, 4, 4, 64]⟩
abbrev S16x32x4x128 : Shape := ⟨4, ![16, 32, 4, 128]⟩
abbrev S16x32x16 : Shape := ⟨3, ![16, 32, 16]⟩
abbrev S1x1x16 : Shape := ⟨3, ![1, 1, 16]⟩
abbrev S16x32x4x4 : Shape := ⟨4, ![16, 32, 4, 4]⟩
abbrev S4x4 : Shape := ⟨2, ![4, 4]⟩
abbrev S1x1x4x4 : Shape := ⟨4, ![1, 1, 4, 4]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x32x1x1 : Shape := ⟨4, ![32, 32, 1, 1]⟩
abbrev S16x1x32x4x4 : Shape := ⟨5, ![16, 1, 32, 4, 4]⟩
abbrev S16x32x32x4x4 : Shape := ⟨5, ![16, 32, 32, 4, 4]⟩
abbrev S16x32x4x4x1 : Shape := ⟨5, ![16, 32, 4, 4, 1]⟩
abbrev S16x32x1x4x4 : Shape := ⟨5, ![16, 32, 1, 4, 4]⟩
abbrev S16x4x32x32 : Shape := ⟨4, ![16, 4, 32, 32]⟩
abbrev S16x32x32x4 : Shape := ⟨4, ![16, 32, 32, 4]⟩
abbrev S16x32x32x4x1 : Shape := ⟨5, ![16, 32, 32, 4, 1]⟩
abbrev S16x4x4x64x32 : Shape := ⟨5, ![16, 4, 4, 64, 32]⟩
abbrev S16x4x4x64x128 : Shape := ⟨5, ![16, 4, 4, 64, 128]⟩
abbrev S16x1x4x4 : Shape := ⟨4, ![16, 1, 4, 4]⟩
abbrev S16x4x4 : Shape := ⟨3, ![16, 4, 4]⟩
abbrev S16x4x4x1x1 : Shape := ⟨5, ![16, 4, 4, 1, 1]⟩
abbrev S4x4x1 : Shape := ⟨3, ![4, 4, 1]⟩
abbrev S1x1x4x4x1 : Shape := ⟨5, ![1, 1, 4, 4, 1]⟩
abbrev S16x32 : Shape := ⟨2, ![16, 32]⟩
abbrev S16x32x1 : Shape := ⟨3, ![16, 32, 1]⟩
abbrev S1x1x1024 : Shape := ⟨3, ![1, 1, 1024]⟩
abbrev S16x16x128x64 : Shape := ⟨4, ![16, 16, 128, 64]⟩

abbrev nBuf : Space → Nat
  | .hbm => 178
  | .vmem => 0
  | .smem => 0
  | _ => 0

abbrev hbmTy0_0 (i : Nat) : BufTy := match i % 128 with
  | 0 => ⟨S16x32x2048, .f32⟩
  | 1 => ⟨S16x32x1024, .f32⟩
  | 2 => ⟨S16x32x128, .f32⟩
  | 3 => ⟨S16x3x2048, .f32⟩
  | 4 => ⟨S16x16x64x128, .f32⟩
  | 5 => ⟨S4x2048, .f32⟩
  | 6 => ⟨S2048, .f32⟩
  | 7 => ⟨S16, .f32⟩
  | 8 => ⟨S16, .f32⟩
  | 9 => ⟨S16, .f32⟩
  | 10 => ⟨S1024, .f32⟩
  | 11 => ⟨S16x35x2048, .f32⟩
  | 12 => ⟨S16x32x2048, .f32⟩
  | 13 => ⟨S1x2048, .f32⟩
  | 14 => ⟨S2048, .f32⟩
  | 15 => ⟨S1x1x2048, .f32⟩
  | 16 => ⟨S16x32x2048, .f32⟩
  | 17 => ⟨S16x32x2048, .f32⟩
  | 18 => ⟨S1x1x2048, .f32⟩
  | 19 => ⟨S16x32x2048, .f32⟩
  | 20 => ⟨S16x32x2048, .f32⟩
  | 21 => ⟨S16x32x2048, .f32⟩
  | 22 => ⟨S1x2048, .f32⟩
  | 23 => ⟨S2048, .f32⟩
  | 24 => ⟨S1x1x2048, .f32⟩
  | 25 => ⟨S16x32x2048, .f32⟩
  | 26 => ⟨S16x32x2048, .f32⟩
  | 27 => ⟨S16x32x2048, .f32⟩
  | 28 => ⟨S16x32x2048, .f32⟩
  | 29 => ⟨S1x2048, .f32⟩
  | 30 => ⟨S2048, .f32⟩
  | 31 => ⟨S1x1x2048, .f32⟩
  | 32 => ⟨S16x32x2048, .f32⟩
  | 33 => ⟨S16x32x2048, .f32⟩
  | 34 => ⟨S16x32x2048, .f32⟩
  | 35 => ⟨S16x32x2048, .f32⟩
  | 36 => ⟨S1x2048, .f32⟩
  | 37 => ⟨S2048, .f32⟩
  | 38 => ⟨S1x1x2048, .f32⟩
  | 39 => ⟨S16x32x2048, .f32⟩
  | 40 => ⟨S16x32x2048, .f32⟩
  | 41 => ⟨S16x32x2048, .f32⟩
  | 42 => ⟨S16x32x2048, .f32⟩
  | 43 => ⟨S16x32x2048, .f32⟩
  | 44 => ⟨S_, .f32⟩
  | 45 => ⟨S16x32x2048, .f32⟩
  | 46 => ⟨S16x32x2048, .f32⟩
  | 47 => ⟨S_, .f32⟩
  | 48 => ⟨S16x32x2048, .f32⟩
  | 49 => ⟨S16x32x2048, .f32⟩
  | 50 => ⟨S16x32x2048, .f32⟩
  | 51 => ⟨S16x8x2048, .f32⟩
  | 52 => ⟨S16x32x1024, .f32⟩
  | 53 => ⟨S16x32x512, .f32⟩
  | 54 => ⟨S16x32x512, .f32⟩
  | 55 => ⟨S16x32x4x4x64, .f32⟩
  | 56 => ⟨S16x32x4x128, .f32⟩
  | 57 => ⟨S16x32x4x128, .f32⟩
  | 58 => ⟨S16x32x16, .f32⟩
  | 59 => ⟨S1x1x16, .f32⟩
  | 60 => ⟨S16x32x16, .f32⟩
  | 61 => ⟨S16x32x16, .f32⟩
  | 62 => ⟨S_, .f32⟩
  | 63 => ⟨S16x32x16, .f32⟩
  | 64 => ⟨S16x32x16, .f32⟩
  | 65 => ⟨S16x32x16, .f32⟩
  | 66 => ⟨S16x32x16, .f32⟩
  | 67 => ⟨S16x32x16, .i1⟩
  | 68 => ⟨S16x32x16, .f32⟩
  | 69 => ⟨S16x32x16, .f32⟩
  | 70 => ⟨S16x32x16, .f32⟩
  | 71 => ⟨S16x32x16, .f32⟩
  | 72 => ⟨S16x32x16, .f32⟩
  | 73 => ⟨S16x32x16, .f32⟩
  | 74 => ⟨S16x32x16, .f32⟩
  | 75 => ⟨S16x32x16, .f32⟩
  | 76 => ⟨S16x32x4x4, .f32⟩
  | 77 => ⟨S16, .f32⟩
  | 78 => ⟨S4x4, .f32⟩
  | 79 => ⟨S4x4, .f32⟩
  | 80 => ⟨S1x1x4x4, .f32⟩
  | 81 => ⟨S16x32x4x4, .f32⟩
  | 82 => ⟨S16x32x4x4, .f32⟩
  | 83 => ⟨S32, .i32⟩
  | 84 => ⟨S32x1, .i32⟩
  | 85 => ⟨S1x32, .i32⟩
  | 86 => ⟨S32x32, .i32⟩
  | 87 => ⟨S32x32, .i32⟩
  | 88 => ⟨S32x32, .i1⟩
  | 89 => ⟨S32x32x1x1, .i1⟩
  | 90 => ⟨S16x1x32x4x4, .f32⟩
  | 91 => ⟨S_, .f32⟩
  | 92 => ⟨S_, .f32⟩
  | 93 => ⟨S16x32x32x4x4, .i1⟩
  | 94 => ⟨S16x32x32x4x4, .f32⟩
  | 95 => ⟨S16x32x32x4x4, .f32⟩
  | 96 => ⟨S16x32x32x4x4, .f32⟩
  | 97 => ⟨S_, .f32⟩
  | 98 => ⟨S16x32x4x4, .f32⟩
  | 99 => ⟨S16x32x4x4x1, .f32⟩
  | 100 => ⟨S16x32x4x4x64, .f32⟩
  | 101 => ⟨S16x32x4x4x64, .f32⟩
  | 102 => ⟨S16x32x1x4x4, .f32⟩
  | 103 => ⟨S16x1x32x4x4, .f32⟩
  | 104 => ⟨S16x32x32x4x4, .f32⟩
  | 105 => ⟨S16x32x32x4x4, .f32⟩
  | 106 => ⟨S16x32x32x4x4, .f32⟩
  | 107 => ⟨S_, .f32⟩
  | 108 => ⟨S_, .f32⟩
  | 109 => ⟨S16x32x32x4x4, .i1⟩
  | 110 => ⟨S16x32x32x4x4, .f32⟩
  | 111 => ⟨S16x32x32x4x4, .f32⟩
  | 112 => ⟨S16x32x32x4x4, .f32⟩
  | 113 => ⟨S16x4x32x32, .f32⟩
  | 114 => ⟨S16x32x32x4, .f32⟩
  | 115 => ⟨S16x32x32x4x1, .f32⟩
  | 116 => ⟨S16x32x32x4x4, .f32⟩
  | 117 => ⟨S16x32x32x4x4, .f32⟩
  | 118 => ⟨S16x4x4x64x32, .f32⟩
  | 119 => ⟨S16x32x4x4x64, .f32⟩
  | 120 => ⟨S16x4x4x64x128, .f32⟩
  | 121 => ⟨S16x4x4x64x32, .f32⟩
  | 122 => ⟨S16x32x4x4x64, .f32⟩
  | 123 => ⟨S16x32x4x4, .f32⟩
  | 124 => ⟨S16x32x4x4x1, .f32⟩
  | 125 => ⟨S16x32x4x4x64, .f32⟩
  | 126 => ⟨S16x32x4x4x64, .f32⟩
  | 127 => ⟨S16x1x4x4, .f32⟩
  | _ => ⟨S16x32x2048, .f32⟩

abbrev hbmTy0_1 (i : Nat) : BufTy := match i % 128 with
  | 0 => ⟨S16x32x4x4, .f32⟩
  | 1 => ⟨S16x32x4x4, .f32⟩
  | 2 => ⟨S16x32x4x4, .f32⟩
  | 3 => ⟨S16x32x4x4x1, .f32⟩
  | 4 => ⟨S16x32x4x4x64, .f32⟩
  | 5 => ⟨S16x32x4x4x64, .f32⟩
  | 6 => ⟨S16x4x4x64x128, .f32⟩
  | 7 => ⟨S16x1x4x4, .f32⟩
  | 8 => ⟨S16x4x4, .f32⟩
  | 9 => ⟨S16x4x4, .f32⟩
  | 10 => ⟨S16x4x4x1x1, .f32⟩
  | 11 => ⟨S16x4x4x64x128, .f32⟩
  | 12 => ⟨S16x4x4x64x128, .f32⟩
  | 13 => ⟨S16x4x4x64x128, .f32⟩
  | 14 => ⟨S16x32x4x4x64, .f32⟩
  | 15 => ⟨S4x4x1, .f32⟩
  | 16 => ⟨S1x1x4x4x1, .f32⟩
  | 17 => ⟨S16x32x4x4x64, .f32⟩
  | 18 => ⟨S16x32x4x4x64, .f32⟩
  | 19 => ⟨S16x32x4x4x64, .f32⟩
  | 20 => ⟨S16x32x1024, .f32⟩
  | 21 => ⟨S16x32x1024, .f32⟩
  | 22 => ⟨S16x32x1024, .f32⟩
  | 23 => ⟨S_, .f32⟩
  | 24 => ⟨S16x32x1024, .f32⟩
  | 25 => ⟨S16x32x1024, .f32⟩
  | 26 => ⟨S_, .f32⟩
  | 27 => ⟨S16x32x1024, .f32⟩
  | 28 => ⟨S16x32x1024, .f32⟩
  | 29 => ⟨S16x32x1024, .f32⟩
  | 30 => ⟨S16x32x1024, .f32⟩
  | 31 => ⟨S16x32x1024, .f32⟩
  | 32 => ⟨S_, .f32⟩
  | 33 => ⟨S16x32, .f32⟩
  | 34 => ⟨S16x32x1, .f32⟩
  | 35 => ⟨S_, .f32⟩
  | 36 => ⟨S16x32x1, .f32⟩
  | 37 => ⟨S16x32x1, .f32⟩
  | 38 => ⟨S_, .f32⟩
  | 39 => ⟨S16x32x1, .f32⟩
  | 40 => ⟨S16x32x1, .f32⟩
  | 41 => ⟨S16x32x1, .f32⟩
  | 42 => ⟨S16x32x1024, .f32⟩
  | 43 => ⟨S16x32x1024, .f32⟩
  | 44 => ⟨S1x1x1024, .f32⟩
  | 45 => ⟨S16x32x1024, .f32⟩
  | 46 => ⟨S16x32x1024, .f32⟩
  | 47 => ⟨S16x32x1024, .bf16⟩
  | 48 => ⟨S16x16x64x128, .f32⟩
  | 49 => ⟨S16x16x128x64, .f32⟩
  | _ => ⟨S16x32x2048, .f32⟩

abbrev hbmTy (i : Nat) : BufTy := match i / 128 with
  | 0 => hbmTy0_0 i
  | 1 => hbmTy0_1 i
  | _ => ⟨S16x32x2048, .f32⟩

abbrev bufTy : (tb : Table) → Fin (tcTables nBuf tb) → BufTy
  | .hbm, ⟨i, _⟩ => hbmTy i
  | _, _ => ⟨S16x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call1_cst : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_v59 : Ref sig .tc := ⟨.hbm, 96, rfl⟩
abbrev main_cst_0 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_1 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_call4_v0 : Ref sig .tc := ⟨.hbm, 149, rfl⟩
abbrev main_call4_v1 : Ref sig .tc := ⟨.hbm, 150, rfl⟩
abbrev main_call4_cst : Ref sig .tc := ⟨.hbm, 151, rfl⟩
abbrev main_call4_v2 : Ref sig .tc := ⟨.hbm, 152, rfl⟩
abbrev main_call4_v3 : Ref sig .tc := ⟨.hbm, 153, rfl⟩
abbrev main_call4_cst_0 : Ref sig .tc := ⟨.hbm, 154, rfl⟩
abbrev main_call4_v4 : Ref sig .tc := ⟨.hbm, 155, rfl⟩
abbrev main_call4_v5 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_cst_2 : Ref sig .tc := ⟨.hbm, 160, rfl⟩
abbrev main_v110 : Ref sig .tc := ⟨.hbm, 161, rfl⟩
abbrev main_v111 : Ref sig .tc := ⟨.hbm, 162, rfl⟩
abbrev main_cst_3 : Ref sig .tc := ⟨.hbm, 163, rfl⟩
abbrev main_v112 : Ref sig .tc := ⟨.hbm, 164, rfl⟩
abbrev main_v113 : Ref sig .tc := ⟨.hbm, 165, rfl⟩
abbrev main_cst_4 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩

abbrev nD : Nat := 1
abbrev τ : Topo := Topo.v7x

variable {F : FTy → Type} [FloatOps F]
-- ==== Proof.AttnFrames.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

/-! The attention call keeps its arguments, and its named slopes round to the literals it was written with. -/

@[expose] public section

noncomputable section

namespace Cert.Attn.Claims

open Idealize.ShloMosaic Idealize.ShloMosaic.TcCoe Idealize.SL.Sem

/-- The kernel leaves its arguments as they were and its semaphores at zero. -/
theorem frame : Cert.quiescent_Kernel := fun m ρ _ => Cert.Kernel.Gen.frame m ρ

/-- So does its reading over the extended reals. -/
theorem frameIdeal : Cert.quiescent_KernelIdeal := fun m ρ _ => Cert.KernelIdeal.Gen.frame m ρ

/-- The reference is a host program without semaphores: its run keeps every argument. -/
theorem frameRef : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The eight slopes that are no floats are named by the roots they round: the table holds each under its name. -/
theorem preserves : Cert.preserves_Kernel_KernelIdeal :=
  ⟨IdealRules.named_const.statement _ "slope0" .f32 0x3F3504F3#32 _ rfl,
    IdealRules.named_const.statement _ "slope2" .f32 0x3EB504F3#32 _ rfl,
    IdealRules.named_const.statement _ "slope4" .f32 0x3E3504F3#32 _ rfl,
    IdealRules.named_const.statement _ "slope6" .f32 0x3DB504F3#32 _ rfl,
    IdealRules.named_const.statement _ "slope8" .f32 0x3D3504F3#32 _ rfl,
    IdealRules.named_const.statement _ "slope10" .f32 0x3CB504F3#32 _ rfl,
    IdealRules.named_const.statement _ "slope12" .f32 0x3C3504F3#32 _ rfl,
    IdealRules.named_const.statement _ "slope14" .f32 0x3BB504F3#32 _ rfl⟩

end Cert.Attn.Claims

end
-- ==== Proof.InProjValue.lean ====
module

public import proofs.«01_k».proof.Defs
public import proofs.«01_k».proof.Proof.Gen.Kernel2Ideal.Value
public import proofs.«01_k».proof.Proof.Gen.Reference2Ideal.Read
public import Idealize.ShloMosaic.Lib.Pipeline.ValueKit
public import Idealize.ShloMosaic.Lib.Pointwise

@[expose] public section

set_option maxRecDepth 16384

noncomputable section

namespace Cert.InProj

open Idealize.ShloMosaic Idealize.ShloMosaic.TcCoe Idealize.SL.Sem
open Idealize.ShloMosaic.Pipeline (Dat)
open Cert.Kernel2Ideal Cert.Kernel2Ideal.Gen
open Cert.Reference2Ideal.Read

variable (m : (ℓ : Loc nD τ sig) → Buf (Elt Ideal) ℓ)

/-- Which block each window shows at a grid point. -/
theorem idx : ∀ t : Fin cfg0.N,
    win0_0.index t = ![(grid0.coords t 0).val, (grid0.coords t 1).val, 0] ∧
    win0_1.index t = ![(grid0.coords t 0).val, 0, 0] ∧
    win0_2.index t = ![(grid0.coords t 0).val, 0, 0] ∧
    win0_3.index t = ![0, 0] ∧ win0_4.index t = ![0, 0] ∧ win0_5.index t = ![0, 0] ∧
    win0_6.index t = ![0, 0] ∧ win0_7.index t = ![0, 0] ∧ win0_8.index t = ![0, 0] ∧ win0_9.index t = ![0, 0] ∧
    win0_10.index t = ![(grid0.coords t 0).val, (grid0.coords t 1).val, 0] ∧
    win0_11.index t = ![(grid0.coords t 0).val, (grid0.coords t 1).val, 0] ∧
    win0_12.index t = ![(grid0.coords t 0).val, (grid0.coords t 1).val, 0] ∧
    win0_13.index t = ![(grid0.coords t 0).val, (grid0.coords t 1).val, 0] ∧
    win0_14.index t = ![(grid0.coords t 0).val, (grid0.coords t 1).val, 0] ∧
    win0_15.index t = ![(grid0.coords t 0).val, (grid0.coords t 1).val, 0] :=
  (by decide +kernel : ∀ t : Fin grid0.N, _)

/-- The modulated, normalised hidden rows: what every projection multiplies. -/
abbrev H (c : Dev nD) :=
  val_main_v18 (F := Ideal) (m ((c : Thread nD τ).loc main_arg0)) (m ((c : Thread nD τ).loc main_arg1))
    (m ((c : Thread nD τ).loc main_arg2)) (m ((c : Thread nD τ).loc main_arg3))

/-- There are two sequences. -/
theorem batch_lt (t : Fin cfg0.N) : (grid0.coords t 0).val < 2 := (grid0.coords t 0).isLt

/-- Every row that a grid point shows lies in its sequence. -/
theorem row_lt (t : Fin cfg0.N) (r : Fin 256) : (grid0.coords t 1).val * 256 + r.val < 16384 := by
  have h1 : (grid0.coords t 1).val < 64 := (grid0.coords t 1).isLt
  omega

/-! ## The arrays the host prepares before the launch -/

/-- The norm's gain as one row. -/
theorem entry_gain (c : Dev nD) : V m c main_v8 = shapeCast S1x2048 (m ((c : Thread nD τ).loc main_arg3)) shapeCasts_S2048_S1x2048 := rfl

/-- The projection matrix, rounded; at the extended reals the rounding is the identity. -/
abbrev W (c : Dev nD) : FVec Ideal S2048x4624 .bf16 :=
  truncf .bf16 (m ((c : Thread nD τ).loc main_arg4) : FVec Ideal S2048x4624 .f32) bitsLt_bf16_f32

/-- The columns of the weight that the host cuts out for the queries. -/
theorem entry_q (c : Dev nD) : V m c main_v3 = extractStridedSlice S2048x1024 ![0, 0] (W m c) slices_S2048x4624_S2048x1024_0_0 := rfl

/-- The columns of the weight that the host cuts out for the keys. -/
theorem entry_k (c : Dev nD) : V m c main_v4 = extractStridedSlice S2048x256 ![0, 1024] (W m c) slices_S2048x4624_S2048x256_0_1024 := rfl

/-- The columns of the weight that the host cuts out for the values. -/
theorem entry_v (c : Dev nD) : V m c main_v5 = extractStridedSlice S2048x256 ![0, 1280] (W m c) slices_S2048x4624_S2048x256_0_1280 := rfl

/-- The columns of the weight that the host cuts out for the gate. -/
theorem entry_z (c : Dev nD) : V m c main_v6 = extractStridedSlice S2048x1024 ![0, 1536] (W m c) slices_S2048x4624_S2048x1024_0_1536 := rfl

/-- The columns of the weight that the host cuts out for the convolution rows. -/
theorem entry_xbc (c : Dev nD) : V m c main_v7 = extractStridedSlice S2048x2048 ![0, 2560] (W m c) slices_S2048x4624_S2048x2048_0_2560 := rfl

/-- The columns of the weight that the host cuts out for the step sizes, padded to 128 lanes. -/
theorem entry_dt (c : Dev nD) : V m c main_v2 = pad S2048x128 ![0, 0] ![0, 112] ![0, 0]
    (extractStridedSlice S2048x16 ![0, 4608] (W m c) slices_S2048x4624_S2048x16_0_4608)
    (sitofp .bf16 (constantI S_ 32 0#32)) pads_S2048x16_S2048x128_000_01120 h_S_ := rfl

/-- The gain's block is the gain. -/
theorem gain_eq (c : Dev nD) (t : Fin cfg0.N) (k : Fin 2048) :
    iblk m c 3 t (ix2 0 k) = m ((c : Thread nD τ).loc main_arg3) (ix1 k) := by
  blk_simp [iblk]
  rw [entry_gain]
  pointwise
  blk_ext [idx t]

/-- The weights of the queries, entry by entry. -/
theorem weight_q (c : Dev nD) (t : Fin cfg0.N) (k : Fin 2048) (n : Fin 1024) :
    iblk m c 4 t (ix2 k n) = m ((c : Thread nD τ).loc main_arg4) (ix2 k ⟨ n.val, by omega⟩) := by
  blk_simp [iblk]
  rw [entry_q]
  pointwise
  blk_ext [idx t]

/-- The weights of the keys, entry by entry. -/
theorem weight_k (c : Dev nD) (t : Fin cfg0.N) (k : Fin 2048) (n : Fin 256) :
    iblk m c 5 t (ix2 k n) = m ((c : Thread nD τ).loc main_arg4) (ix2 k ⟨1024 + n.val, by omega⟩) := by
  blk_simp [iblk]
  rw [entry_k]
  pointwise
  blk_ext [idx t]

/-- The weights of the values, entry by entry. -/
theorem weight_v (c : Dev nD) (t : Fin cfg0.N) (k : Fin 2048) (n : Fin 256) :
    iblk m c 6 t (ix2 k n) = m ((c : Thread nD τ).loc main_arg4) (ix2 k ⟨1280 + n.val, by omega⟩) := by
  blk_simp [iblk]
  rw [entry_v]
  pointwise
  blk_ext [idx t]

/-- The weights of the gate, entry by entry. -/
theorem weight_z (c : Dev nD) (t : Fin cfg0.N) (k : Fin 2048) (n : Fin 1024) :
    iblk m c 7 t (ix2 k n) = m ((c : Thread nD τ).loc main_arg4) (ix2 k ⟨1536 + n.val, by omega⟩) := by
  blk_simp [iblk]
  rw [entry_z]
  pointwise
  blk_ext [idx t]

/-- The weights of the convolution rows, entry by entry. -/
theorem weight_xbc (c : Dev nD) (t : Fin cfg0.N) (k : Fin 2048) (n : Fin 2048) :
    iblk m c 8 t (ix2 k n) = m ((c : Thread nD τ).loc main_arg4) (ix2 k ⟨2560 + n.val, by omega⟩) := by
  blk_simp [iblk]
  rw [entry_xbc]
  pointwise
  blk_ext [idx t]

/-- The integer zero the host pads with is the number zero. -/
theorem zero_word {φ : FTy} : (FloatOps.sitofp (F := Ideal) φ (0#32 : BitVec 32) : EReal) = 0 := by
  show (((0#32 : BitVec 32).toInt : ℝ) : EReal) = 0
  norm_num

/-- The step-size weights stand in the first 16 of 128 lanes; the host fills the others with zeros. -/
theorem weight_dt (c : Dev nD) (t : Fin cfg0.N) (k : Fin 2048) (n : Fin 128) :
    iblk m c 9 t (ix2 k n)
      = if h : n.val < 16 then m ((c : Thread nD τ).loc main_arg4) (ix2 k ⟨4608 + n.val, by omega⟩) else (0 : EReal) := by
  have e : ((cfg0.win 9).blk t).view.emb (ix2 k n) = (ix2 k n : S2048x128.Idx) := by
    blk_ext [idx t]
  have hk : k.val < 2048 := k.isLt
  blk_simp [iblk]
  rw [entry_dt, e]
  pointwise
  by_cases h : n.val < 16
  · simp only [dif_pos h]
  · simp only [dif_neg h]
    exact zero_word

/-- The hidden row that a grid point forms is the reference's row at the block's place. -/
theorem hidden_eq (c : Dev nD) (t : Fin cfg0.N) (r : Fin 256) (k : Fin 2048) :
    k0_pay2 (iblk m c 0 t) (iblk m c 3 t) (iblk m c 2 t) (iblk m c 1 t) (ix2 r k)
      = H m c (ix3 ⟨(grid0.coords t 0).val, batch_lt t⟩ ⟨(grid0.coords t 1).val * 256 + r.val, row_lt t r⟩ k) := by
  unfold H
  pointwise [k0_pay2, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [gain_eq]
  blk_point [iblk, V, idx t]

/-- The reference's queries at the kernel's arguments. -/
def G10 (c : Dev nD) : Buf (Elt Ideal) ((c : Thread nD τ).loc main_v9_0) :=
  val_main_v26 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The kernel's queries, as a whole array, are the reference's. -/
theorem final10 (c : Dev nD) : (dats m 0 c).arrAt 10 cfg0.N = G10 m c := by
  refine (dats m 0 c).arrAt_eq_of_covers 10 _ (by decide +kernel) fun t hf y => ?_
  obtain ⟨a, r, n, rfl⟩ : ∃ (a : Fin 1) (r : Fin 256) (n : Fin 1024), y = ix3 a r n := ⟨y 0, y 1, y 2, eq_ix3 y⟩
  have e : ((cfg0.win 10).blk t).view.emb (ix3 a r n)
      = (ix3 ⟨(grid0.coords t 0).val, batch_lt t⟩ ⟨(grid0.coords t 1).val * 256 + r.val, row_lt t r⟩ n : S2x16384x1024.Idx) := by
    blk_ext [idx t]
  rw [e]
  blk_simp
  rw [after0_10]
  unfold_out out0_10
  frame_out
  unfold G10
  pointwise [k0_pay3, k0_pay4, k0_pay5, k0_pay6, k0_pay7, k0_pay8, k0_pay1, k0_pay9, val_main_v19, val_main_v20, val_main_v21, val_main_v22, val_main_v23, val_main_v24, val_main_v25, val_main_v26, val_main_v27, val_main_call0_v0, val_main_c]
  simp only [hidden_eq m c t, H, weight_q m c t]
  rfl

/-- The reference's keys at the kernel's arguments. -/
def G11 (c : Dev nD) : Buf (Elt Ideal) ((c : Thread nD τ).loc main_v9_1) :=
  val_main_v21 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The kernel's keys, as a whole array, are the reference's. -/
theorem final11 (c : Dev nD) : (dats m 0 c).arrAt 11 cfg0.N = G11 m c := by
  refine (dats m 0 c).arrAt_eq_of_covers 11 _ (by decide +kernel) fun t hf y => ?_
  obtain ⟨a, r, n, rfl⟩ : ∃ (a : Fin 1) (r : Fin 256) (n : Fin 256), y = ix3 a r n := ⟨y 0, y 1, y 2, eq_ix3 y⟩
  have e : ((cfg0.win 11).blk t).view.emb (ix3 a r n)
      = (ix3 ⟨(grid0.coords t 0).val, batch_lt t⟩ ⟨(grid0.coords t 1).val * 256 + r.val, row_lt t r⟩ n : S2x16384x256.Idx) := by
    blk_ext [idx t]
  rw [e]
  blk_simp
  rw [after0_11]
  unfold_out out0_11
  frame_out
  unfold G11
  pointwise [k0_pay3, k0_pay4, k0_pay5, k0_pay6, k0_pay7, k0_pay8, k0_pay1, k0_pay9, val_main_v19, val_main_v20, val_main_v21, val_main_v22, val_main_v23, val_main_v24, val_main_v25, val_main_v26, val_main_v27, val_main_call0_v0, val_main_c]
  simp only [hidden_eq m c t, H, weight_k m c t]
  rfl

/-- The reference's values at the kernel's arguments. -/
def G12 (c : Dev nD) : Buf (Elt Ideal) ((c : Thread nD τ).loc main_v9_2) :=
  val_main_v22 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The kernel's values, as a whole array, are the reference's. -/
theorem final12 (c : Dev nD) : (dats m 0 c).arrAt 12 cfg0.N = G12 m c := by
  refine (dats m 0 c).arrAt_eq_of_covers 12 _ (by decide +kernel) fun t hf y => ?_
  obtain ⟨a, r, n, rfl⟩ : ∃ (a : Fin 1) (r : Fin 256) (n : Fin 256), y = ix3 a r n := ⟨y 0, y 1, y 2, eq_ix3 y⟩
  have e : ((cfg0.win 12).blk t).view.emb (ix3 a r n)
      = (ix3 ⟨(grid0.coords t 0).val, batch_lt t⟩ ⟨(grid0.coords t 1).val * 256 + r.val, row_lt t r⟩ n : S2x16384x256.Idx) := by
    blk_ext [idx t]
  rw [e]
  blk_simp
  rw [after0_12]
  unfold_out out0_12
  frame_out
  unfold G12
  pointwise [k0_pay3, k0_pay4, k0_pay5, k0_pay6, k0_pay7, k0_pay8, k0_pay1, k0_pay9, val_main_v19, val_main_v20, val_main_v21, val_main_v22, val_main_v23, val_main_v24, val_main_v25, val_main_v26, val_main_v27, val_main_call0_v0, val_main_c]
  simp only [hidden_eq m c t, H, weight_v m c t]
  rfl

/-- The reference's gate at the kernel's arguments. -/
def G13 (c : Dev nD) : Buf (Elt Ideal) ((c : Thread nD τ).loc main_v9_3) :=
  val_main_v23 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The kernel's gate, as a whole array, is the reference's. -/
theorem final13 (c : Dev nD) : (dats m 0 c).arrAt 13 cfg0.N = G13 m c := by
  refine (dats m 0 c).arrAt_eq_of_covers 13 _ (by decide +kernel) fun t hf y => ?_
  obtain ⟨a, r, n, rfl⟩ : ∃ (a : Fin 1) (r : Fin 256) (n : Fin 1024), y = ix3 a r n := ⟨y 0, y 1, y 2, eq_ix3 y⟩
  have e : ((cfg0.win 13).blk t).view.emb (ix3 a r n)
      = (ix3 ⟨(grid0.coords t 0).val, batch_lt t⟩ ⟨(grid0.coords t 1).val * 256 + r.val, row_lt t r⟩ n : S2x16384x1024.Idx) := by
    blk_ext [idx t]
  rw [e]
  blk_simp
  rw [after0_13]
  unfold_out out0_13
  frame_out
  unfold G13
  pointwise [k0_pay3, k0_pay4, k0_pay5, k0_pay6, k0_pay7, k0_pay8, k0_pay1, k0_pay9, val_main_v19, val_main_v20, val_main_v21, val_main_v22, val_main_v23, val_main_v24, val_main_v25, val_main_v26, val_main_v27, val_main_call0_v0, val_main_c]
  simp only [hidden_eq m c t, H, weight_z m c t]
  rfl

/-- The reference's convolution rows at the kernel's arguments. -/
def G14 (c : Dev nD) : Buf (Elt Ideal) ((c : Thread nD τ).loc main_v9_4) :=
  val_main_v24 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The kernel's convolution rows, as a whole array, are the reference's. -/
theorem final14 (c : Dev nD) : (dats m 0 c).arrAt 14 cfg0.N = G14 m c := by
  refine (dats m 0 c).arrAt_eq_of_covers 14 _ (by decide +kernel) fun t hf y => ?_
  obtain ⟨a, r, n, rfl⟩ : ∃ (a : Fin 1) (r : Fin 256) (n : Fin 2048), y = ix3 a r n := ⟨y 0, y 1, y 2, eq_ix3 y⟩
  have e : ((cfg0.win 14).blk t).view.emb (ix3 a r n)
      = (ix3 ⟨(grid0.coords t 0).val, batch_lt t⟩ ⟨(grid0.coords t 1).val * 256 + r.val, row_lt t r⟩ n : S2x16384x2048.Idx) := by
    blk_ext [idx t]
  rw [e]
  blk_simp
  rw [after0_14]
  unfold_out out0_14
  frame_out
  unfold G14
  pointwise [k0_pay3, k0_pay4, k0_pay5, k0_pay6, k0_pay7, k0_pay8, k0_pay1, k0_pay9, val_main_v19, val_main_v20, val_main_v21, val_main_v22, val_main_v23, val_main_v24, val_main_v25, val_main_v26, val_main_v27, val_main_call0_v0, val_main_c]
  simp only [hidden_eq m c t, H, weight_xbc m c t]
  rfl

/-- The reference's step sizes at the kernel's arguments. -/
def G15 (c : Dev nD) : Buf (Elt Ideal) ((c : Thread nD τ).loc main_v9_5) :=
  val_main_v27 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The kernel's step sizes, as a whole array, are the reference's. -/
theorem final15 (c : Dev nD) : (dats m 0 c).arrAt 15 cfg0.N = G15 m c := by
  refine (dats m 0 c).arrAt_eq_of_covers 15 _ (by decide +kernel) fun t hf y => ?_
  obtain ⟨a, r, n, rfl⟩ : ∃ (a : Fin 1) (r : Fin 256) (n : Fin 128), y = ix3 a r n := ⟨y 0, y 1, y 2, eq_ix3 y⟩
  have e : ((cfg0.win 15).blk t).view.emb (ix3 a r n)
      = (ix3 ⟨(grid0.coords t 0).val, batch_lt t⟩ ⟨(grid0.coords t 1).val * 256 + r.val, row_lt t r⟩ n : S2x16384x128.Idx) := by
    blk_ext [idx t]
  rw [e]
  blk_simp
  rw [after0_15]
  unfold_out out0_15
  frame_out
  unfold G15
  pointwise [k0_pay3, k0_pay4, k0_pay5, k0_pay6, k0_pay7, k0_pay8, k0_pay1, k0_pay9, val_main_v19, val_main_v20, val_main_v21, val_main_v22, val_main_v23, val_main_v24, val_main_v25, val_main_v26, val_main_v27, val_main_call0_v0, val_main_c]
  simp only [hidden_eq m c t, H, weight_dt m c t]
  by_cases h : n.val < 16
  · simp only [dif_pos h]
    rw [dif_pos ⟨row_lt t r, h⟩]
    rfl
  · simp only [dif_neg h, mul_zero, Finset.sum_const_zero]
    rw [dif_neg fun h' => h h'.2]
    exact zero_word.symm

end Cert.InProj

end
-- ==== Proof.InProjClaims.lean ====
module

public import proofs.«01_k».proof.Defs
public import proofs.«01_k».proof.Proof.InProjValue
public import proofs.«01_k».proof.Proof.Gen.Kernel2.Frame
public import proofs.«01_k».proof.Proof.Gen.Kernel2Ideal.Frame
public import proofs.«01_k».proof.Proof.Gen.Reference2Ideal.Run
public import Idealize.ShloMosaic.Lib.Quiescent

/-! The claims about the input projection: the modulated norm of the stream times the fused weight, cut into
    queries, keys, values, gate, convolution inputs and step sizes. -/

@[expose] public section

noncomputable section

namespace Cert.InProj.Claims

open Idealize.ShloMosaic Idealize.ShloMosaic.TcCoe Idealize.SL.Sem
open Cert.Reference2Ideal.Read

/-- The kernel leaves its arguments as they were and its semaphores at zero. -/
theorem frame : Cert.quiescent_Kernel2 := fun m ρ _ => Cert.Kernel2.Gen.frame m ρ

/-- So does its reading over the extended reals. -/
theorem frameIdeal : Cert.quiescent_Kernel2Ideal := fun m ρ _ => Cert.Kernel2Ideal.Gen.frame m ρ

/-- The reference is a host program without semaphores: its run keeps every argument. -/
theorem frameRef : Cert.quiescent_Reference2Ideal := fun m ρ _ =>
  (θ_run Cert.Reference2Ideal.defs _ _).mono (fun r h => ⟨fun c => (h c).2.2.2.2.2.2,
      Idealize.ShloMosaic.sem_eq_zero_of_no_sems (by decide) r.2⟩)
    (Cert.Reference2Ideal.Value.run (F := Ideal) m ρ)

/-- No operation was rewritten on the way to the extended reals. -/
theorem preserves : Cert.preserves_Kernel2_Kernel2Ideal := trivial

/-- Kernel and reference end with the same six arrays. -/
theorem algebraic : Cert.algebraic_Kernel2Ideal_Reference2Ideal := by
  intro m ρ m' ρ' _ hag
  refine ⟨fun c => G10 m c, fun c => G11 m c, fun c => G12 m c, fun c => G13 m c, fun c => G14 m c, fun c => G15 m c, ?_, ?_⟩
  · exact (θ_run Cert.Kernel2Ideal.defs _ _).mono
      (fun _ h c => ⟨(h c).1.trans (final10 m c), (h c).2.1.trans (final11 m c), (h c).2.2.1.trans (final12 m c),
        (h c).2.2.2.1.trans (final13 m c), (h c).2.2.2.2.1.trans (final14 m c),
        (h c).2.2.2.2.2.1.trans (final15 m c), (h c).2.2.2.2.2.2⟩)
      (Cert.Kernel2Ideal.Value.run_blocks m ρ)
  · refine (θ_run Cert.Reference2Ideal.defs _ _).mono (fun _ h c => ?_)
      (Cert.Reference2Ideal.Value.run (F := Ideal) m' ρ')
    obtain ⟨a0, a1, a2, a3, a4⟩ := hag c
    refine ⟨(h c).1.trans ((val_main_v26_eq ..).trans ?_), (h c).2.1.trans ((val_main_v21_eq ..).trans ?_),
      (h c).2.2.1.trans ((val_main_v22_eq ..).trans ?_), (h c).2.2.2.1.trans ((val_main_v23_eq ..).trans ?_),
      (h c).2.2.2.2.1.trans ((val_main_v24_eq ..).trans ?_), (h c).2.2.2.2.2.1.trans ((val_main_v27_eq ..).trans ?_),
      (h c).2.2.2.2.2.2⟩
    all_goals rw [a0, a1, a2, a3, a4]; rfl

end Cert.InProj.Claims

end
-- ==== Proof.OutProjValue.lean ====
module

public import proofs.«01_k».proof.Defs
public import proofs.«01_k».proof.Proof.Gen.Kernel3Ideal.Value
public import proofs.«01_k».proof.Proof.Gen.Reference3Ideal.Read
public import Idealize.ShloMosaic.Lib.Pipeline.ValueKit
public import Idealize.ShloMosaic.Lib.Pointwise

@[expose] public section

set_option maxRecDepth 16384

noncomputable section

namespace Cert.OutProj

open Idealize.ShloMosaic Idealize.ShloMosaic.TcCoe Idealize.SL.Sem
open Idealize.ShloMosaic.Pipeline (Dat)
open Cert.Kernel3Ideal Cert.Kernel3Ideal.Gen
open Cert.Reference3Ideal.Read

variable (m : (ℓ : Loc nD τ sig) → Buf (Elt Ideal) ℓ)

/-- Which block each window shows at a grid point. -/
theorem idx : ∀ t : Fin cfg0.N,
    win0_0.index t = ![(grid0.coords t 0).val, (grid0.coords t 1).val, 0] ∧
    win0_1.index t = ![(grid0.coords t 0).val, (grid0.coords t 1).val, 0] ∧
    win0_2.index t = ![(grid0.coords t 0).val, (grid0.coords t 1).val, 0] ∧
    win0_3.index t = ![(grid0.coords t 0).val, 0, 0] ∧
    win0_4.index t = ![(grid0.coords t 0).val, 0, 0] ∧
    win0_5.index t = ![(grid0.coords t 0).val, 0, 0] ∧
    win0_6.index t = ![0, 0] ∧ win0_7.index t = ![0, 0] ∧ win0_8.index t = ![0, 0] ∧
    win0_9.index t = ![(grid0.coords t 0).val, (grid0.coords t 1).val, 0] ∧
    win0_10.index t = ![(grid0.coords t 0).val, (grid0.coords t 1).val, 0] :=
  (by decide +kernel : ∀ t : Fin grid0.N, _)

/-- The reference's rows after the residual, at the kernel's arguments. -/
def X1 (c : Dev nD) : Buf (Elt Ideal) ((c : Thread nD τ).loc main_v4_0) :=
  val_main_v6 (F := Ideal) (m ((c : Thread nD τ).loc main_arg0)) (m ((c : Thread nD τ).loc main_arg1))
    (m ((c : Thread nD τ).loc main_arg2)) (m ((c : Thread nD τ).loc main_arg3)) (m ((c : Thread nD τ).loc main_arg7))

/-- The kernel's rows after the residual are the reference's. -/
theorem final9 (c : Dev nD) : (dats m 0 c).arrAt 9 cfg0.N = X1 m c := by
  refine (dats m 0 c).arrAt_eq_of_covers 9 _ (by decide +kernel) fun t hf y => ?_
  blk_simp
  rw [after0_9]
  frame_out
  unfold X1
  pointwise [k0_pay3, k0_pay2, val_main_v6, val_main_v5, val_main_v4, val_main_v3, val_main_v2, val_main_v1, val_main_v0]
  blk_point [iblk, V, idx t]

/-- The residual row that a grid point holds is the reference's row at the block's place. -/
theorem pay2_eq (c : Dev nD) (t : Fin cfg0.N) (r : Fin 256) (n : Fin 2048)
    (h : (grid0.coords t 1).val * 256 + r.val < 16384) (hb : (grid0.coords t 0).val < 2) :
    k0_pay2 (iblk m c 0 t) (iblk m c 7 t) (iblk m c 1 t) (iblk m c 8 t) (iblk m c 2 t) (iblk m c 3 t) (ix2 r n)
      = X1 m c (ix3 ⟨(grid0.coords t 0).val, hb⟩ ⟨(grid0.coords t 1).val * 256 + r.val, h⟩ n) := by
  unfold X1
  pointwise [k0_pay2, val_main_v6, val_main_v5, val_main_v4, val_main_v3, val_main_v2, val_main_v1, val_main_v0]
  blk_point [iblk, V, idx t]

/-- The reference's normed and modulated rows, at the kernel's arguments. -/
def H2 (c : Dev nD) : Buf (Elt Ideal) ((c : Thread nD τ).loc main_v4_1) :=
  val_main_v26 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The kernel's normed and modulated rows are the reference's. -/
theorem final10 (c : Dev nD) : (dats m 0 c).arrAt 10 cfg0.N = H2 m c := by
  refine (dats m 0 c).arrAt_eq_of_covers 10 _ (by decide +kernel) fun t hf y => ?_
  obtain ⟨a, r, n, rfl⟩ : ∃ (a : Fin 1) (r : Fin 256) (n : Fin 2048), y = ix3 a r n := ⟨y 0, y 1, y 2, eq_ix3 y⟩
  have hb : (grid0.coords t 0).val < 2 := (grid0.coords t 0).isLt
  have hr : (grid0.coords t 1).val * 256 + r.val < 16384 := by
    have h1 : (grid0.coords t 1).val < 64 := (grid0.coords t 1).isLt
    omega
  have e : ((cfg0.win 10).blk t).view.emb (ix3 a r n)
      = (ix3 ⟨(grid0.coords t 0).val, hb⟩ ⟨(grid0.coords t 1).val * 256 + r.val, hr⟩ n : S2x16384x2048.Idx) := by
    blk_ext [idx t]
  rw [e]
  blk_simp
  rw [after0_10]
  frame_out
  unfold H2
  pointwise [k0_pay1, k0_pay5, k0_pay4, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_cst, val_main_cst_0, val_main_cst_1, val_main_cst_2]
  simp only [pay2_eq m c t _ _ hr hb, X1]
  blk_point [iblk, V, idx t]

end Cert.OutProj

end
-- ==== Proof.OutProjClaims.lean ====
module

public import proofs.«01_k».proof.Defs
public import proofs.«01_k».proof.Proof.OutProjValue
public import proofs.«01_k».proof.Proof.Gen.Kernel3.Frame
public import proofs.«01_k».proof.Proof.Gen.Kernel3Ideal.Frame
public import proofs.«01_k».proof.Proof.Gen.Reference3Ideal.Run
public import Idealize.ShloMosaic.Lib.Quiescent

/-! The claims about the output projection: the branch sum times the weight, the gated residual, and the second
    modulated norm. -/

@[expose] public section

noncomputable section

namespace Cert.OutProj.Claims

open Idealize.ShloMosaic Idealize.ShloMosaic.TcCoe Idealize.SL.Sem
open Cert.Reference3Ideal.Read

/-- The kernel leaves its arguments as they were and its semaphores at zero. -/
theorem frame : Cert.quiescent_Kernel3 := fun m ρ _ => Cert.Kernel3.Gen.frame m ρ

/-- So does its reading over the extended reals. -/
theorem frameIdeal : Cert.quiescent_Kernel3Ideal := fun m ρ _ => Cert.Kernel3Ideal.Gen.frame m ρ

/-- The reference is a host program without semaphores: its run keeps every argument. -/
theorem frameRef : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

/-- No operation was rewritten on the way to the extended reals. -/
theorem preserves : Cert.preserves_Kernel3_Kernel3Ideal := trivial

/-- Kernel and reference end with the same residual stream and the same modulated norm. -/
theorem algebraic : Cert.algebraic_Kernel3Ideal_Reference3Ideal := by
  intro m ρ m' ρ' _ hag
  refine ⟨fun c => X1 m c, fun c => H2 m c, ?_, ?_⟩
  · exact (θ_run Cert.Kernel3Ideal.defs _ _).mono
      (fun _ h c => ⟨(h c).1.trans (final9 m c), (h c).2.1.trans (final10 m c), (h c).2.2⟩)
      (Cert.Kernel3Ideal.Value.run_blocks m ρ)
  · refine (θ_run Cert.Reference3Ideal.defs _ _).mono (fun _ h c => ?_)
      (Cert.Reference3Ideal.Value.run (F := Ideal) m' ρ')
    obtain ⟨a0, a1, a2, a3, a4, a5, a6, a7⟩ := hag c
    refine ⟨(h c).1.trans ((val_main_v6_eq ..).trans ?_), (h c).2.1.trans ((val_main_v26_eq ..).trans ?_), (h c).2.2⟩
    · rw [a0, a1, a2, a3, a7]; rfl
    · rw [a0, a1, a2, a3, a4, a5, a6, a7]; rfl

end Cert.OutProj.Claims

end
-- ==== Proof.AttnMath.lean ====
module

public import Idealize.ShloMosaic.Lib.Pointwise

/-! The mathematics of one attention row over the extended reals: a softmax whose denominator also holds a sink.
    The weighted sum divided once is the sum of the weights divided each, and keys whose score is `⊥` count for
    nothing, so that a row over many keys, most of them masked, is the row over the band that is left. -/

@[expose] public section

noncomputable section

namespace Cert.Attn

open Idealize.ShloMosaic

variable {n k : ℕ}

/-- The largest score, the sink among them. -/
def peak (lg : Fin n → EReal) (s : EReal) : EReal := max (Finset.univ.fold max ⊥ lg) s

/-- The weight of a key before it is normalised. -/
def weight (lg : Fin n → EReal) (s : EReal) (j : Fin n) : EReal := Ideal.exp (lg j - peak lg s)

/-- The sum of all weights, the sink's among them. -/
def mass (lg : Fin n → EReal) (s : EReal) : EReal := ∑ j, weight lg s j + Ideal.exp (s - peak lg s)

/-- The attention row: the weighted sum of the values, divided at the end. -/
def soft (lg v : Fin n → EReal) (s : EReal) : EReal := Ideal.div (∑ j, weight lg s j * v j) (mass lg s)

/-- The attention row as it is written on paper: every weight normalised, then the sum. -/
def softEach (lg v : Fin n → EReal) (s : EReal) : EReal := ∑ j, Ideal.div (weight lg s j) (mass lg s) * v j

/-- The fold that takes the largest score is a supremum. -/
theorem fold_max_eq_sup (lg : Fin n → EReal) : Finset.univ.fold max ⊥ lg = Finset.univ.sup lg := rfl

/-- With a real sink and no score `⊤`, the largest score is real. -/
theorem peak_real (lg : Fin n → EReal) (s : ℝ) (h : ∀ j, lg j ≠ ⊤) : ∃ p : ℝ, peak lg s = p := by
  have hb : peak lg s ≠ ⊥ := ne_of_gt (lt_of_lt_of_le (EReal.bot_lt_coe s) (le_max_right _ _))
  have ht : peak lg s ≠ ⊤ := by
    refine ne_of_lt (max_lt ?_ (EReal.coe_lt_top s))
    rw [fold_max_eq_sup]
    exact (Finset.sup_lt_iff (by simp)).2 fun j _ => lt_top_iff_ne_top.2 (h j)
  exact ⟨(peak lg s).toReal, (EReal.coe_toReal ht hb).symm⟩

/-- An exponential below `⊤` is a nonnegative real. -/
theorem exp_real {x : EReal} (h : x ≠ ⊤) : ∃ e : ℝ, 0 ≤ e ∧ Ideal.exp x = e := by
  induction x using EReal.rec with
  | bot => exact ⟨0, le_rfl, rfl⟩
  | coe r => exact ⟨Real.exp r, (Real.exp_pos r).le, rfl⟩
  | top => exact absurd rfl h

/-- With a real sink and no score `⊤`, the sum of the weights is a positive real. -/
theorem mass_real (lg : Fin n → EReal) (s : ℝ) (h : ∀ j, lg j ≠ ⊤) : ∃ c : ℝ, 0 < c ∧ mass lg s = c := by
  obtain ⟨p, hp⟩ := peak_real lg s h
  have hw : ∀ j, ∃ e : ℝ, 0 ≤ e ∧ weight lg s j = e := fun j => by
    refine exp_real ?_
    rw [hp]
    generalize hx : lg j = x
    induction x using EReal.rec with
    | bot => simp
    | coe r => exact EReal.coe_ne_top (r - p)
    | top => exact absurd hx (h j)
  choose e he0 he using hw
  refine ⟨∑ j, e j + Real.exp (s - p), add_pos_of_nonneg_of_pos (Finset.sum_nonneg fun j _ => he0 j) (Real.exp_pos _), ?_⟩
  unfold mass
  rw [Finset.sum_congr rfl fun j _ => he j, hp, EReal.coe_add]
  congr 1
  exact (map_sum (⟨⟨(Real.toEReal), EReal.coe_zero⟩, EReal.coe_add⟩ : ℝ →+ EReal) e Finset.univ).symm

/-- A nonnegative real factor goes into a sum. -/
theorem sum_mul_real (f : Fin n → EReal) (c : ℝ) (hc : 0 ≤ c) : (∑ j, f j) * (c : EReal) = ∑ j, f j * (c : EReal) := by
  induction (Finset.univ : Finset (Fin n)) using Finset.induction_on with
  | empty => simp
  | insert a t ha ih =>
    rw [Finset.sum_insert ha, Finset.sum_insert ha,
      EReal.right_distrib_of_nonneg_of_ne_top (EReal.coe_nonneg.2 hc) (EReal.coe_ne_top c), ih]

/-- Dividing the weighted sum is dividing every weight. -/
theorem soft_eq_softEach (lg v : Fin n → EReal) (s : ℝ) (h : ∀ j, lg j ≠ ⊤) : soft lg v s = softEach lg v s := by
  obtain ⟨c, hc, hm⟩ := mass_real lg s h
  have hd (x : EReal) : Ideal.div x (c : EReal) = x * ((c⁻¹ : ℝ) : EReal) := by
    unfold Ideal.div
    rw [if_neg (by exact_mod_cast hc.ne'), EReal.coe_inv]
  unfold soft softEach
  simp only [hm, hd]
  rw [sum_mul_real _ _ (inv_nonneg.2 hc.le)]
  exact Finset.sum_congr rfl fun j _ => mul_right_comm _ _ _

/-- Masked keys leave the largest score as it is. -/
theorem peak_band (lg : Fin n → EReal) (lg' : Fin k → EReal) (s : EReal) (e : Fin k → Fin n)
    (h : ∀ i, lg (e i) = lg' i) (h0 : ∀ j, (∀ i, e i ≠ j) → lg j = ⊥) : peak lg s = peak lg' s := by
  unfold peak
  rw [fold_max_eq_sup, fold_max_eq_sup]
  congr 1
  refine le_antisymm (Finset.sup_le fun j _ => ?_) (Finset.sup_le fun i _ => ?_)
  · by_cases hj : ∃ i, e i = j
    · obtain ⟨i, rfl⟩ := hj
      rw [h]
      exact Finset.le_sup (f := lg') (Finset.mem_univ i)
    · rw [h0 j fun i hi => hj ⟨i, hi⟩]
      exact bot_le
  · rw [← h]
    exact Finset.le_sup (f := lg) (Finset.mem_univ (e i))

/-- A sum over all keys that vanishes off the band is the sum over the band. -/
theorem sum_band (f : Fin n → EReal) (f' : Fin k → EReal) (e : Fin k → Fin n) (he : Function.Injective e)
    (h : ∀ i, f (e i) = f' i) (h0 : ∀ j, (∀ i, e i ≠ j) → f j = 0) : ∑ j, f j = ∑ i, f' i := by
  rw [← Finset.sum_congr rfl fun i _ => h i, ← Finset.sum_image (f := f) (s := Finset.univ) (g := e) he.injOn]
  refine (Finset.sum_subset (Finset.subset_univ _) fun j _ hj => h0 j fun i hi => hj ?_).symm
  exact Finset.mem_image.2 ⟨i, Finset.mem_univ i, hi⟩

/-- The row over all keys is the row over the band: off the band every score is `⊥`, and in the band the values need
    agree only where the score is not. -/
theorem soft_band (lg v : Fin n → EReal) (lg' v' : Fin k → EReal) (s : ℝ) (e : Fin k → Fin n)
    (he : Function.Injective e) (h : ∀ i, lg (e i) = lg' i) (h0 : ∀ j, (∀ i, e i ≠ j) → lg j = ⊥)
    (hv : ∀ i, lg' i ≠ ⊥ → v (e i) = v' i) : soft lg v s = soft lg' v' s := by
  have hp := peak_band lg lg' s e h h0
  have hb : ∀ x : EReal, Ideal.exp (⊥ - x) = 0 := fun x => by rw [EReal.bot_sub]; rfl
  have hw (i : Fin k) : weight lg s (e i) = weight lg' s i := by unfold weight; rw [h, hp]
  have hw0 (j : Fin n) (hj : ∀ i, e i ≠ j) : weight lg s j = 0 := by unfold weight; rw [h0 j hj, hb]
  have hm : mass lg s = mass lg' s := by
    unfold mass
    rw [hp, sum_band _ _ e he hw hw0]
  unfold soft
  rw [hm, sum_band _ (fun i => weight lg' s i * v' i) e he (fun i => ?_) fun j hj => by rw [hw0 j hj, zero_mul]]
  rw [hw]
  by_cases hi : lg' i = ⊥
  · have : weight lg' s i = 0 := by unfold weight; rw [hi, hb]
    rw [this, zero_mul, zero_mul]
  · rw [hv i hi]

end Cert.Attn

end
-- ==== Proof.AttnHead.lean ====
module

public import proofs.«01_k».proof.Defs
public import proofs.«01_k».proof.Proof.Gen.KernelIdeal.Value
public import proofs.«01_k».proof.Proof.AttnMath
public import Idealize.ShloMosaic.Lib.Pipeline.ValueKit
public import Idealize.ShloMosaic.Lib.Pointwise

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen

variable {F : FTy → Type} [FloatOps F] [Named F]

/-- One head's masked scores: the scaled dot products less the slope's share of the distance, −∞ where a key isn't seen. -/
def logits (q : FVec F S256x64 .bf16) (k : FVec F S384x64 .bf16) (dist : FVec F S256x384 .f32) (ok : IVec S256x384 1)
    (slope : F .f32) : FVec F S256x384 .f32 :=
  select ok
    (subf (mulf (matmul dot_S256x64_S384x64_S256x384_1_1_0_0_n_n none q k (constant S256x384 .f32 0x00000000#32))
        (broadcast S256x384 (Scalar.ofBits .f32 0x3E000000#32)))
      (mulf (broadcast S256x384 slope) dist))
    (broadcast S256x384 (Scalar.ofBits .f32 0xFF800000#32))

/-- A head's 64 columns lie inside the query row. -/
theorem slices_head : ∀ h : Fin 16, S256x1024.Slices ![0, 64 * h.val] S256x64 := by decide

/-- A head's queries. -/
def headQ (q : FVec F S256x1024 .bf16) (h : Fin 16) : FVec F S256x64 .bf16 :=
  extractStridedSlice S256x64 ![0, 64 * h.val] q (slices_head h)

/-- The slope of a head's distance penalty, as the kernel holds it. -/
def slope : Fin 16 → F .f32 :=
  ![Named.named κ "slope0" 0x3F3504F3#32, Scalar.ofBits .f32 0x3F000000#32,
    Named.named κ "slope2" 0x3EB504F3#32, Scalar.ofBits .f32 0x3E800000#32,
    Named.named κ "slope4" 0x3E3504F3#32, Scalar.ofBits .f32 0x3E000000#32,
    Named.named κ "slope6" 0x3DB504F3#32, Scalar.ofBits .f32 0x3D800000#32,
    Named.named κ "slope8" 0x3D3504F3#32, Scalar.ofBits .f32 0x3D000000#32,
    Named.named κ "slope10" 0x3CB504F3#32, Scalar.ofBits .f32 0x3C800000#32,
    Named.named κ "slope12" 0x3C3504F3#32, Scalar.ofBits .f32 0x3C000000#32,
    Named.named κ "slope14" 0x3BB504F3#32, Scalar.ofBits .f32 0x3B800000#32]

/-- A key head's columns of a block of rows lie inside it. -/
theorem inb_prev (g : Fin 4) : ∀ a : Fin 3, ![0, 0, 64 * g.val] a + ![1, 128, 64] a ≤ S1x128x256.size a := by
  revert g; decide

/-- The same for the current block. -/
theorem inb_cur (g : Fin 4) : ∀ a : Fin 3, ![0, 0, 64 * g.val] a + ![1, 256, 64] a ≤ S1x256x256.size a := by
  revert g; decide

/-- The keys (or values) of one key head that a block sees: the 128 rows before it, then its own 256. -/
def window (prev : Vec F S1x128x256 .f32) (cur : Vec F S1x256x256 .f32) (g : Fin 4) : FVec F S384x64 .bf16 :=
  k0_pay5 (View.ld prev (Rect.unit ![0, 0, 64 * g.val] ![1, 128, 64] (inb_prev g)))
    (View.ld cur (Rect.unit ![0, 0, 64 * g.val] ![1, 256, 64] (inb_cur g)))

/-- A head's place among the sinks. -/
theorem inb_sink (h : Fin 16) : ∀ a : Fin 1, ![h.val] a + ![1] a ≤ S16.size a := by
  revert h; decide

/-- The key head of a head. -/
def keyHead (h : Fin 16) : Fin 4 := ⟨h.val / 4, by omega⟩

variable (i : grid0.Coords) (x0 : Vec F S16 .f32) (x1 : Vec F S1x256x1024 .bf16) (x2 : Vec F S1x128x256 .f32)
  (x3 : Vec F S1x256x256 .f32) (x4 : Vec F S1x128x256 .f32) (x5 : Vec F S1x256x256 .f32) (x6 : Vec F S1x1024 .f32)

/-- A head's masked scores, from the blocks. -/
def headLogits (h : Fin 16) : FVec F S256x384 .f32 :=
  logits (headQ (k0_pay4 x1) h) (window x2 x3 (keyHead h)) k0_pay2 (k0_pay3 i) (slope h)

/-- A head's attention, from the blocks. -/
def head (h : Fin 16) : FVec F S256x64 .f32 :=
  k0_pay20 (window x4 x5 (keyHead h)) (headLogits i x1 x2 x3 h)
    (View.ld x0 (Rect.unit ![h.val] ![1] (inb_sink h)) (Shape.Idx.first Nat.one_pos))

/-- Sixteen heads side by side. -/
def side (f : Fin 16 → FVec F S256x64 .f32) : FVec F S256x1024 .f32 :=
  concatenate S256x1024 1 [⟨S256x64, f 0⟩, ⟨S256x64, f 1⟩, ⟨S256x64, f 2⟩, ⟨S256x64, f 3⟩, ⟨S256x64, f 4⟩, ⟨S256x64, f 5⟩,
    ⟨S256x64, f 6⟩, ⟨S256x64, f 7⟩, ⟨S256x64, f 8⟩, ⟨S256x64, f 9⟩, ⟨S256x64, f 10⟩, ⟨S256x64, f 11⟩, ⟨S256x64, f 12⟩,
    ⟨S256x64, f 13⟩, ⟨S256x64, f 14⟩, ⟨S256x64, f 15⟩]
    concatenates_S256x64_S256x64_S256x64_S256x64_S256x64_S256x64_S256x64_S256x64_S256x64_S256x64_S256x64_S256x64_S256x64_S256x64_S256x64_S256x64_S256x1024_d1

/-- The root-mean-square norm of every row, with the gains of `g`. -/
def rms (x : FVec F S256x1024 .f32) (g : Vec F S1x1024 .f32) : FVec F S256x1024 .bf16 :=
  truncf .bf16 (mulf (mulf x (broadcastTo S256x1024 (rsqrt (addf (divf (shapeCast S256x1
      (multiReduction .add [1] S256 (mulf x x) 0x00000000#32 reduces_S256x1024_S256 (.inl rfl) rfl) shapeCasts_S256_S256x1)
      (broadcast S256x1 (Scalar.ofBits .f32 0x44800000#32))) (broadcast S256x1 (Scalar.ofBits .f32 0x358637BD#32))))
      broadcasts_S256x1_S256x1024))
    (broadcastTo S256x1024 (shapeCast S1x1024 g shapeCasts_S1x1024_S1x1024) broadcasts_S1x1024_S256x1024)) bitsLt_bf16_f32

variable (m : (ℓ : Loc nD τ sig) → Buf (Elt F) ℓ)

/-- What a grid point leaves in its output block: the norm of its sixteen heads. -/
theorem outsAt (c : Dev nD) (t : Fin cfg0.N) : outsAt0 m c t
    = k0_pay1 (rms (side (head (grid0.coords t) (iblk m c 0 t) (iblk m c 1 t) (iblk m c 2 t) (iblk m c 3 t) (iblk m c 4 t)
        (iblk m c 5 t))) (iblk m c 6 t)) := by
  unfold outsAt0 out0_A_7; frame_out
  rfl

end Cert.Attn
end
-- ==== Proof.AttnPoint.lean ====
module

public import proofs.«01_k».proof.Defs
public import proofs.«01_k».proof.Proof.Gen.KernelIdeal.Value
public import proofs.«01_k».proof.Proof.AttnHead
public import Idealize.ShloMosaic.Lib.Pipeline.ValueKit
public import Idealize.ShloMosaic.Lib.Pointwise

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen

/-- The mask's word is −∞. -/
theorem bot_word : Ideal.ofBits .f32 0xFF800000#32 = ⊥ := by simp [Ideal.ofBits, Ideal.ieee, -EReal.coe_mul]

/-- A head at a row and a column is the attention row's sum, divided at the end. -/
theorem soft_at (v : FVec Ideal S384x64 .bf16) (L : FVec Ideal S256x384 .f32) (s : EReal) (r : Fin 256) (d : Fin 64) :
    k0_pay20 v L s (ix2 r d) = soft (fun j : Fin 384 => L (ix2 r j)) (fun j => v (ix2 j d)) s := by
  pointwise [k0_pay20]
  simp only [bot_word]
  rfl

/-- The masked score of a key, at a query row. -/
theorem logits_at (q : FVec Ideal S256x64 .bf16) (k : FVec Ideal S384x64 .bf16) (dist : FVec Ideal S256x384 .f32) (ok : IVec S256x384 1)
    (sl : EReal) (r : Fin 256) (j : Fin 384) :
    logits (F := Ideal) q k dist ok sl (ix2 r j) = Scalar.select (ok (ix2 r j))
      ((∑ x, q (ix2 r x) * k (ix2 j x)) * Ideal.ofBits .f32 0x3E000000#32 - sl * dist (ix2 r j)) ⊥ := by
  pointwise [logits]
  rw [bot_word]

/-- A head's queries are its 64 columns of the query block. -/
theorem headQ_at (q : Vec Ideal S1x256x1024 .bf16) (h : Fin 16) (r : Fin 256) (d : Fin 64) :
    headQ (F := Ideal) (k0_pay4 q) h (ix2 r d) = q (ix3 0 r ⟨64 * h.val + d.val, by omega⟩) := by
  pointwise [headQ, k0_pay4]

/-- The window's rows: the previous block's, then the current one's. -/
theorem window_at (prev : Vec Ideal S1x128x256 .f32) (cur : Vec Ideal S1x256x256 .f32) (g : Fin 4) (j : Fin 384) (d : Fin 64) :
    window (F := Ideal) prev cur g (ix2 j d) = if h : j.val < 128 then prev (ix3 0 ⟨j.val, h⟩ ⟨64 * g.val + d.val, by omega⟩)
      else cur (ix3 0 ⟨j.val - 128, by omega⟩ ⟨64 * g.val + d.val, by omega⟩) := by
  pointwise [window, k0_pay5]

/-- The norm of a row, read at a column. -/
theorem rms_at (x : FVec Ideal S256x1024 .f32) (g : Vec Ideal S1x1024 .f32) (r : Fin 256) (n : Fin 1024) :
    rms (F := Ideal) x g (ix2 r n) = x (ix2 r n) * Ideal.rsqrt (Ideal.div (∑ k, x (ix2 r k) * x (ix2 r k))
      (Ideal.ofBits .f32 0x44800000#32) + Ideal.ofBits .f32 0x358637BD#32) * g (ix2 0 n) := by
  pointwise [rms]

/-- Sixteen heads side by side, read at a head and a column of it. -/
theorem side_at (f : Fin 16 → FVec Ideal S256x64 .f32) (h : Fin 16) (d : Fin 64) (r : Fin 256) :
    side (F := Ideal) f (ix2 r ⟨64 * h.val + d.val, by omega⟩) = f h (ix2 r d) := by
  have hd := d.isLt
  refine concatenate_ofFn_apply (t := S256x1024) (s₁ := S256x64) 1 f _ rfl 64 rfl _ h ?_ _ ?_ ?_
  · change (64 * h.val + d.val) / 64 = h.val; omega
  · change d.val = (64 * h.val + d.val) % 64; omega
  · intro b hb
    match b with
    | ⟨0, _⟩ => rfl
    | ⟨1, _⟩ => exact absurd rfl hb

/-- A row of a block and a key of its window, as words: how far apart they are. -/
theorem dist_at (r : Fin 256) (j : Fin 384) : k0_pay2 (F := Ideal) (ix2 r j) = FloatOps.sitofp (F := Ideal) .f32
    (IntOp.absi (IntOp.subi (IntOp.addi (BitVec.ofNat 32 r.val) 128#32) (BitVec.ofNat 32 j.val))) := by
  pointwise [k0_pay2]

/-- A key's chunk in its window, as a word. -/
theorem chunk_word : ∀ j : Fin 384, IntOp.shrsi .vector (BitVec.ofNat 32 j.val) 6#32 = BitVec.ofNat 32 (j.val / 64) := by
  decide +kernel

/-- The window's chunks a row sees: its own and the two before it. -/
theorem near_word : ∀ (a : Fin 6) (b : Fin 4),
    IntOp.andi (IntOp.cmpi .sle (IntOp.subi (BitVec.ofNat 32 a.val) 2#32) (BitVec.ofNat 32 b.val))
      (IntOp.cmpi .sge (IntOp.subi (BitVec.ofNat 32 a.val) 2#32) (IntOp.subi (BitVec.ofNat 32 b.val) 2#32))
      = if b.val ≤ a.val ∧ a.val ≤ b.val + 2 then 1#1 else 0#1 := by
  decide +kernel

/-- Whether a key is in the current block, as a word. -/
theorem here_word : ∀ j : Fin 384, IntOp.cmpi .sge (BitVec.ofNat 32 j.val) 128#32 = if 128 ≤ j.val then 1#1 else 0#1 := by
  decide +kernel

/-- Whether a block has one before it, as a word. -/
theorem later_word : ∀ b : Fin 64, Scalar.cmpi .sgt (BitVec.ofNat 32 b.val) 0#32 = if 0 < b.val then 1#1 else 0#1 := by
  decide +kernel

/-- Which keys of the window a row sees: the 192 from the start of the second chunk before its own, save those before the sequence. -/
theorem ok_at (i : grid0.Coords) (r : Fin 256) (j : Fin 384) : k0_pay3 i (ix2 r j)
    = if (64 * (r.val / 64) ≤ j.val ∧ j.val < 64 * (r.val / 64) + 192) ∧ (128 ≤ j.val ∨ 0 < (i 1).val) then 1#1 else 0#1 := by
  have hr := r.isLt
  have hj := j.isLt
  pointwise [k0_pay3]
  rw [chunk_word j, chunk_word ⟨r.val, by omega⟩, near_word ⟨j.val / 64, by omega⟩ ⟨r.val / 64, by omega⟩, here_word, later_word (i 1)]
  dsimp only
  split_ifs <;> first | rfl | (exfalso; omega)

end Cert.Attn
end
-- ==== Proof.AttnBand.lean ====
module

public import proofs.«01_k».proof.Defs
public import proofs.«01_k».proof.Proof.Gen.ReferenceIdeal.Read
public import Idealize.ShloMosaic.Lib.Pointwise

@[expose] public section

set_option maxRecDepth 16384

noncomputable section

namespace Cert.Attn

open Idealize.ShloMosaic Idealize.ShloMosaic.TcCoe Idealize.SL.Sem
open Idealize.ShloMosaic.Pipeline (Dat)
open Cert.ReferenceIdeal Cert.ReferenceIdeal.Gen Cert.ReferenceIdeal.Read

variable (q : Vec Ideal S2x16384x1024 .bf16) (x : Vec Ideal S2x16384x256 .f32)

/-- The band of a chunk's keys: its row `t` is row `64 c + t - 128` of the sequence. -/
theorem keys_at (b : Fin 2) (c : Fin 256) (t : Fin 192) (kh : Fin 4) (d : Fin 64) (h : 128 ≤ 64 * c.val + t.val) :
    val_main_v7 (F := Ideal) x (ix5 b c t kh d)
      = x (ix3 b ⟨64 * c.val + t.val - 128, by omega⟩ ⟨64 * kh.val + d.val, by omega⟩) := by
  pointwise [val_main_v7, val_main_v6, val_main_v5, val_main_v4, val_main_v3, val_main_v2]
  split_ifs <;> first | (exfalso; omega) | (congr 1; idx_ext)

/-- The same for its values. -/
theorem values_at (b : Fin 2) (c : Fin 256) (t : Fin 192) (kh : Fin 4) (d : Fin 64) (h : 128 ≤ 64 * c.val + t.val) :
    val_main_v13 (F := Ideal) x (ix5 b c t kh d)
      = x (ix3 b ⟨64 * c.val + t.val - 128, by omega⟩ ⟨64 * kh.val + d.val, by omega⟩) := by
  pointwise [val_main_v13, val_main_v12, val_main_v11, val_main_v10, val_main_v9, val_main_v8]
  split_ifs <;> first | (exfalso; omega) | (congr 1; idx_ext)

/-- A chunk's queries, by head. -/
theorem queries_at (b : Fin 2) (c : Fin 256) (r : Fin 64) (kh gg : Fin 4) (d : Fin 64) :
    val_main_v1 (F := Ideal) q (ix6 b c r kh gg d)
      = q (ix3 b ⟨64 * c.val + r.val, by omega⟩ ⟨64 * (4 * kh.val + gg.val) + d.val, by omega⟩) := by
  pointwise [val_main_v1, val_main_v0]
  congr 1; idx_ext

/-- A band row's chunk, as a word. -/
theorem chunk_at : ∀ t : Fin 192, (val_main_v49 (F := Ideal) (ix2 0 t) : BitVec 32) = BitVec.ofNat 32 (t.val / 64) := by
  decide +kernel

/-- Whether a band row's chunk lies inside the sequence, as words. -/
theorem inside_word : ∀ (c : Fin 256) (a : Fin 3),
    IntOp.cmpi .sge (IntOp.addi (IntOp.subi (BitVec.ofNat 32 c.val) 2#32) (BitVec.ofNat 32 a.val)) 0#32
      = if 2 ≤ c.val + a.val then 1#1 else 0#1 := by
  decide +kernel

/-- The reference's mask: a band row is seen where it lies inside the sequence. -/
theorem mask_at (c : Fin 256) (t : Fin 192) :
    val_main_v54 (F := Ideal) (ix2 c t) = if 128 ≤ 64 * c.val + t.val then 1#1 else 0#1 := by
  have ht := t.isLt
  have h : val_main_v54 (F := Ideal) (ix2 c t) = IntOp.cmpi .sge (IntOp.addi (IntOp.subi (BitVec.ofNat 32 c.val) 2#32)
      (val_main_v49 (F := Ideal) (ix2 0 t))) 0#32 := by
    pointwise [val_main_v54, val_main_v53, val_main_v52, val_main_v51, val_main_v50, val_main_v48, val_main_v47,
      val_main_v46, val_main_v45, val_main_v44, val_main_c_8, val_main_c_6, val_main_v19]
  rw [h, chunk_at t, inside_word c ⟨t.val / 64, by omega⟩]
  dsimp only
  split_ifs <;> first | rfl | (exfalso; omega)

/-- The reference's slope of a head. -/
def refSlope (h : Fin 16) : EReal := val_main_v37 (F := Ideal) (ix1 h)

/-- The reference's penalty for a distance. -/
theorem penalty_at (kh gg : Fin 4) (r : Fin 64) (t : Fin 192) :
    val_main_v43 (F := Ideal) (ix4 kh gg r t) = -refSlope ⟨4 * kh.val + gg.val, by omega⟩ * FloatOps.sitofp (F := Ideal) .f32
      (IntOp.absi (IntOp.subi (IntOp.addi 128#32 (BitVec.ofNat 32 r.val)) (BitVec.ofNat 32 t.val))) := by
  pointwise [val_main_v43, val_main_v42, val_main_v41, val_main_v40, val_main_v39, val_main_v38, val_main_v28, val_main_v27,
    val_main_v26, val_main_v25, val_main_v24, val_main_v23, val_main_v22, val_main_v21, val_main_v20, val_main_v19,
    val_main_v18, val_main_c_1]
  unfold refSlope
  rw [show (⟨kh.val * 4 + gg.val, by omega⟩ : Fin 16) = ⟨4 * kh.val + gg.val, by omega⟩ from Fin.ext (by dsimp only; omega)]

/-- The reference's scaled dot product. -/
theorem dot_at (b : Fin 2) (c : Fin 256) (kh gg : Fin 4) (r : Fin 64) (t : Fin 192) (k : Vec Ideal S2x16384x256 .f32) :
    val_main_v17 (F := Ideal) q k (ix6 b c kh gg r t) = (∑ d, val_main_v7 (F := Ideal) k (ix5 b c t kh d)
      * val_main_v1 (F := Ideal) q (ix6 b c r kh gg d)) * Ideal.ofBits .f32 0x3E000000#32 := by
  pointwise [val_main_v17, val_main_v16, val_main_v15, val_main_v14]
  rfl

/-- The masked score of a band row, for a query row. -/
theorem score_at (b : Fin 2) (c : Fin 256) (kh gg : Fin 4) (r : Fin 64) (t : Fin 192) (k : Vec Ideal S2x16384x256 .f32) :
    val_main_v59 (F := Ideal) q k (ix6 b c kh gg r t) = Scalar.select (val_main_v54 (F := Ideal) (ix2 c t))
      (val_main_v17 (F := Ideal) q k (ix6 b c kh gg r t) + val_main_v43 (F := Ideal) (ix4 kh gg r t))
      (Ideal.ofBits .f32 0xFF800000#32) := by
  pointwise [val_main_v59, val_main_call3_v2, val_main_call3_v1, val_main_v58, val_main_v57, val_main_v56, val_main_v55]
  rfl

end Cert.Attn
end
-- ==== Proof.AttnSlope.lean ====
module

public import proofs.«01_k».proof.Defs
public import proofs.«01_k».proof.Proof.Gen.KernelIdeal.Value
public import proofs.«01_k».proof.Proof.AttnHead
public import proofs.«01_k».proof.Proof.AttnBand
public import Idealize.ShloMosaic.Lib.Pipeline.ValueKit
public import Idealize.ShloMosaic.Lib.Pointwise

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen

open Cert.ReferenceIdeal.Read in
/-- The reference's slopes: head `h` has `2 ^ (-(h + 1) / 2)`. -/
theorem refSlope_eq (h : Fin 16) : refSlope h = (((Real.sqrt (2 ^ (h.val + 1)))⁻¹ : ℝ) : EReal) := by
  have hw : ∀ h : Fin 16, (BitVec.ofNat 32 h.val).toInt = (h.val : ℤ) := by decide
  have hn : FloatOps.sitofp (F := Ideal) .f32 (BitVec.ofNat 32 h.val) = ((h.val : ℝ) : EReal) := by
    change (((BitVec.ofNat 32 h.val).toInt : ℝ) : EReal) = _
    rw [hw h]; norm_cast
  have h2 : Ideal.ofBits .f32 0x40000000#32 = ((2 : ℝ) : EReal) := by
    simp [Ideal.ofBits, Ideal.ieee, -EReal.coe_mul]; norm_num
  have h8 : Ideal.ofBits .f32 0xC1000000#32 = ((-8 : ℝ) : EReal) := by
    simp [Ideal.ofBits, Ideal.ieee, -EReal.coe_mul]; norm_num
  have h16 : Ideal.ofBits .f32 0x41800000#32 = ((16 : ℝ) : EReal) := by
    simp [Ideal.ofBits, Ideal.ieee, -EReal.coe_mul]; norm_num
  unfold refSlope
  pointwise [val_main_v37, val_main_v36, val_main_v35, val_main_v34, val_main_v33, val_main_v32, val_main_v31, val_main_v30,
    val_main_v29, val_main_cst_2, val_main_cst_3, val_main_cst_4, val_main_cst_5]
  rw [hn, h2, h8, h16, Ideal.div_coe (by norm_num), ← EReal.coe_one, ← EReal.coe_add, ← EReal.coe_mul, ← EReal.coe_mul,
    Ideal.pow_coe_coe]
  refine congrArg _ ?_
  change (2 : ℝ) ^ (-8 * (1 + (h.val : ℝ)) * (1 / 16)) = _
  rw [Real.sqrt_eq_rpow, ← Real.rpow_natCast 2 (h.val + 1), ← Real.rpow_mul (by norm_num), ← Real.rpow_neg (by norm_num)]
  congr 1; push_cast; ring

/-- A power of four has a power of two for its root. -/
theorem sqrt_four_pow (n : ℕ) (x : ℝ) (h : x = 2 ^ n * 2 ^ n) : Real.sqrt x = 2 ^ n := by
  rw [h]; exact Real.sqrt_mul_self (by positivity)

/-- The kernel's slopes are the reference's. -/
theorem slope_eq (h : Fin 16) : slope (F := Ideal) h = refSlope h := by
  rw [refSlope_eq]
  have odd (w : BitVec 32) (n m : ℕ) (hm : m = 2 * n) (hw : Ideal.ofBits .f32 w = (((2 ^ n)⁻¹ : ℝ) : EReal)) :
      Ideal.ofBits .f32 w = (((Real.sqrt (2 ^ m))⁻¹ : ℝ) : EReal) := by
    rw [hw, sqrt_four_pow n _ (by rw [hm, ← pow_add]; congr 1; omega)]
  have even (x : ℝ) (n : ℕ) (hx : x = 2 ^ n) : (((Real.sqrt x)⁻¹ : ℝ) : EReal) = (((Real.sqrt (2 ^ n))⁻¹ : ℝ) : EReal) := by
    rw [hx]
  fin_cases h
  · exact even 2 1 (by norm_num)
  · exact odd 0x3F000000#32 1 2 rfl (by simp [Ideal.ofBits, Ideal.ieee, -EReal.coe_mul]; norm_num)
  · exact even 8 3 (by norm_num)
  · exact odd 0x3E800000#32 2 4 rfl (by simp [Ideal.ofBits, Ideal.ieee, -EReal.coe_mul]; norm_num)
  · exact even 32 5 (by norm_num)
  · exact odd 0x3E000000#32 3 6 rfl (by simp [Ideal.ofBits, Ideal.ieee, -EReal.coe_mul]; norm_num)
  · exact even 128 7 (by norm_num)
  · exact odd 0x3D800000#32 4 8 rfl (by simp [Ideal.ofBits, Ideal.ieee, -EReal.coe_mul]; norm_num)
  · exact even 512 9 (by norm_num)
  · exact odd 0x3D000000#32 5 10 rfl (by simp [Ideal.ofBits, Ideal.ieee, -EReal.coe_mul]; norm_num)
  · exact even 2048 11 (by norm_num)
  · exact odd 0x3C800000#32 6 12 rfl (by simp [Ideal.ofBits, Ideal.ieee, -EReal.coe_mul]; norm_num)
  · exact even 8192 13 (by norm_num)
  · exact odd 0x3C000000#32 7 14 rfl (by simp [Ideal.ofBits, Ideal.ieee, -EReal.coe_mul]; norm_num)
  · exact even 32768 15 (by norm_num)
  · exact odd 0x3B800000#32 8 16 rfl (by simp [Ideal.ofBits, Ideal.ieee, -EReal.coe_mul]; norm_num)

end Cert.Attn
end
-- ==== Proof.AttnRef.lean ====
module

public import proofs.«01_k».proof.Defs
public import proofs.«01_k».proof.Proof.Gen.ReferenceIdeal.Read
public import Idealize.ShloMosaic.Lib.Pointwise
public import Idealize.ShloMosaic.Lib.KernelVsHost

@[expose] public section

set_option maxRecDepth 16384

noncomputable section

namespace Cert.Attn

open Idealize.ShloMosaic Idealize.ShloMosaic.TcCoe Idealize.SL.Sem
open Idealize.ShloMosaic.Pipeline (Dat)
open Cert.ReferenceIdeal Cert.ReferenceIdeal.Gen Cert.ReferenceIdeal.Read

variable (q : Vec Ideal S2x16384x1024 .bf16) (k v : Vec Ideal S2x16384x256 .f32) (s : Vec Ideal S16 .f32) (g : Vec Ideal S1024 .f32)

/-- The largest score of a row. -/
theorem top_at (b : Fin 2) (c : Fin 256) (kh gg : Fin 4) (r : Fin 64) : val_main_v61 (F := Ideal) q k (ix5 b c kh gg r)
    = Finset.univ.fold max (Ideal.ofBits .f32 0xFF800000#32) fun t => val_main_v59 (F := Ideal) q k (ix6 b c kh gg r t) := by
  unfold val_main_v61
  generalize val_main_v59 (F := Ideal) q k = y
  unfold val_main_cst_10
  have h' : S2x256x4x4x64x192.Reduces [5] S2x256x4x4x64 := by decide
  have e := hostReduce_maximumf_eq_multiReduction (F := Ideal) (φ := .f32) (u := S_) y 0xFF800000#32
    reducesTo_S2x256x4x4x64x192_S2x256x4x4x64_d5 h_S_ h' (.inl rfl) rfl
  refine (congrFun e _).trans ((Ideal.multiReduction_maximumf_single (φ := .f32) y 0xFF800000#32 h' (.inl rfl) rfl _).trans ?_)
  refine congrArg (Finset.univ.fold max _) (funext fun t => congrArg y (funext fun a => Fin.ext ?_))
  match a with
  | ⟨0, _⟩ => rfl | ⟨1, _⟩ => rfl | ⟨2, _⟩ => rfl | ⟨3, _⟩ => rfl | ⟨4, _⟩ => rfl | ⟨5, _⟩ => rfl

/-- A row's sink. -/
theorem sink_at (kh gg : Fin 4) : val_main_v60 (F := Ideal) s (ix6 0 0 kh gg 0 0) = s (ix1 ⟨4 * kh.val + gg.val, by omega⟩) := by
  pointwise [val_main_v60]
  congr 1; idx_ext

/-- The largest of a row's scores and its sink. -/
theorem peak_at (b : Fin 2) (c : Fin 256) (kh gg : Fin 4) (r : Fin 64) (y : S2x256x4x4x64.Idx → EReal) (z : S1x1x4x4x1x1.Idx → EReal)
    (hy : val_main_v61 (F := Ideal) q k = y) (hz : val_main_v60 (F := Ideal) s = z) :
    val_main_v64 (F := Ideal) q k s (ix6 b c kh gg r 0) = max (y (ix5 b c kh gg r)) (z (ix6 0 0 kh gg 0 0)) := by
  unfold val_main_v64 val_main_v63 val_main_v62
  rw [hy, hz]
  pointwise

/-- A key's weight before it is normalised. -/
theorem weight_at (b : Fin 2) (c : Fin 256) (kh gg : Fin 4) (r : Fin 64) (t : Fin 192) :
    val_main_v67 (F := Ideal) q k s (ix6 b c kh gg r t) = Ideal.exp (val_main_v59 (F := Ideal) q k (ix6 b c kh gg r t)
      - val_main_v64 (F := Ideal) q k s (ix6 b c kh gg r 0)) := by
  unfold val_main_v67 val_main_v66 val_main_v65
  generalize val_main_v59 (F := Ideal) q k = y
  generalize val_main_v64 (F := Ideal) q k s = z
  pointwise

/-- The sum of a row's weights, the sink's apart. -/
theorem sum_at (b : Fin 2) (c : Fin 256) (kh gg : Fin 4) (r : Fin 64) : val_main_v68 (F := Ideal) q k s (ix5 b c kh gg r)
    = ∑ t, val_main_v67 (F := Ideal) q k s (ix6 b c kh gg r t) := by
  rw [val_main_v68_apply, val_main_cst_11_apply]
  have h0 : (FloatOps.ofBits .f32 0x00000000#32 : Ideal .f32) = (0 : EReal) := Ideal.ofBits_zero_f32
  rw [h0, zero_add]
  generalize val_main_v67 (F := Ideal) q k s = y
  refine Finset.sum_congr rfl fun t _ => congrArg y (funext fun a => ?_)
  match a with
  | ⟨0, _⟩ => rfl | ⟨1, _⟩ => rfl | ⟨2, _⟩ => rfl | ⟨3, _⟩ => rfl | ⟨4, _⟩ => rfl | ⟨5, _⟩ => rfl

/-- The sum of a row's weights, the sink's among them. -/
theorem mass_at (b : Fin 2) (c : Fin 256) (kh gg : Fin 4) (r : Fin 64) : val_main_v73 (F := Ideal) q k s (ix6 b c kh gg r 0)
    = val_main_v68 (F := Ideal) q k s (ix5 b c kh gg r) + Ideal.exp (val_main_v60 (F := Ideal) s (ix6 0 0 kh gg 0 0)
      - val_main_v64 (F := Ideal) q k s (ix6 b c kh gg r 0)) := by
  unfold val_main_v73 val_main_v72 val_main_v71 val_main_v70 val_main_v69
  generalize val_main_v68 (F := Ideal) q k s = x
  generalize val_main_v60 (F := Ideal) s = y
  generalize val_main_v64 (F := Ideal) q k s = z
  pointwise

/-- A key's normalised weight. -/
theorem share_at (b : Fin 2) (c : Fin 256) (kh gg : Fin 4) (r : Fin 64) (t : Fin 192) :
    val_main_v75 (F := Ideal) q k s (ix6 b c kh gg r t) = Ideal.div (val_main_v67 (F := Ideal) q k s (ix6 b c kh gg r t))
      (val_main_v73 (F := Ideal) q k s (ix6 b c kh gg r 0)) := by
  unfold val_main_v75 val_main_v74
  generalize val_main_v67 (F := Ideal) q k s = y
  generalize val_main_v73 (F := Ideal) q k s = z
  pointwise

/-- A row's attention, at a column of a head. -/
theorem attn_at (b : Fin 2) (c : Fin 256) (kh gg : Fin 4) (r d : Fin 64) : val_main_v77 (F := Ideal) q k v s (ix6 b c r kh gg d)
    = ∑ t, val_main_v13 (F := Ideal) v (ix5 b c t kh d) * val_main_v75 (F := Ideal) q k s (ix6 b c kh gg r t) := by
  unfold val_main_v77 val_main_v76
  generalize val_main_v13 (F := Ideal) v = y
  generalize val_main_v75 (F := Ideal) q k s = z
  pointwise

/-- The same, where the output holds it. -/
theorem row_at (b : Fin 2) (c : Fin 256) (kh gg : Fin 4) (r d : Fin 64) :
    val_main_v78 (F := Ideal) q k v s (ix3 b ⟨64 * c.val + r.val, by omega⟩ ⟨64 * (4 * kh.val + gg.val) + d.val, by omega⟩)
      = val_main_v77 (F := Ideal) q k v s (ix6 b c r kh gg d) := by
  unfold val_main_v78
  generalize val_main_v77 (F := Ideal) q k v s = y
  pointwise

/-- The sum of a row's squares. -/
theorem squares_at (b : Fin 2) (w : Fin 16384) (y : S2x16384x1024.Idx → EReal) (hy : val_main_v78 (F := Ideal) q k v s = y) :
    val_main_v80 (F := Ideal) q k v s (ix2 b w) = ∑ n : Fin 1024, y (ix3 b w n) * y (ix3 b w n) := by
  unfold val_main_v80 val_main_v79
  rw [hy]
  pointwise [val_main_cst_12]

/-- The normed row. -/
theorem norm_at (b : Fin 2) (w : Fin 16384) (n : Fin 1024) (y : S2x16384x1024.Idx → EReal) (z : S2x16384.Idx → EReal)
    (hy : val_main_v78 (F := Ideal) q k v s = y) (hz : val_main_v80 (F := Ideal) q k v s = z) :
    val_main_v92 (F := Ideal) q k v s g (ix3 b w n) = y (ix3 b w n) * Ideal.rsqrt (Ideal.div (z (ix2 b w))
      (Ideal.ofBits .f32 0x44800000#32) + Ideal.ofBits .f32 0x358637BD#32) * g (ix1 n) := by
  unfold val_main_v92 val_main_v91 val_main_v88 val_main_v87 val_main_v86 val_main_v85 val_main_v83 val_main_v81
  rw [hy, hz]
  pointwise [val_main_v90, val_main_v89, val_main_v84, val_main_v82, val_main_cst_14, val_main_cst_13]

end Cert.Attn
end
-- ==== Proof.AttnScore.lean ====
module

public import proofs.«01_k».proof.Defs
public import proofs.«01_k».proof.Proof.Gen.KernelIdeal.Value
public import proofs.«01_k».proof.Proof.AttnPoint
public import proofs.«01_k».proof.Proof.AttnSlope
public import proofs.«01_k».proof.Proof.AttnRef
public import Idealize.ShloMosaic.Lib.Pipeline.ValueKit
public import Idealize.ShloMosaic.Lib.Pointwise

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen

open Cert.ReferenceIdeal.Read

/-- A block's row and a key of its window are as far apart as the row of the chunk and the key of its band. -/
theorem apart_word (a r t : ℕ) : IntOp.subi (IntOp.addi (BitVec.ofNat 32 (64 * a + r)) 128#32) (BitVec.ofNat 32 (64 * a + t))
    = IntOp.subi (IntOp.addi 128#32 (BitVec.ofNat 32 r)) (BitVec.ofNat 32 t) := by
  change BitVec.ofNat 32 (64 * a + r) + 128#32 - BitVec.ofNat 32 (64 * a + t) = 128#32 + BitVec.ofNat 32 r - BitVec.ofNat 32 t
  rw [BitVec.ofNat_add, BitVec.ofNat_add]
  generalize BitVec.ofNat 32 (64 * a) = x
  generalize BitVec.ofNat 32 r = y
  generalize BitVec.ofNat 32 t = z
  apply BitVec.eq_of_toNat_eq
  simp only [BitVec.toNat_sub, BitVec.toNat_add, BitVec.toNat_ofNat]
  omega

/-- A finite sum of reals is a real. -/
theorem sum_real {n : ℕ} (f : Fin n → EReal) (h : ∀ i, ∃ x : ℝ, f i = x) : ∃ x : ℝ, ∑ i, f i = x :=
  Finset.sum_induction f (fun y => ∃ x : ℝ, y = x)
    (fun _ _ ⟨x, hx⟩ ⟨y, hy⟩ => ⟨x + y, by rw [hx, hy, EReal.coe_add]⟩) ⟨0, EReal.coe_zero.symm⟩ fun i _ => h i

section

variable (q : Vec Ideal Cert.ReferenceIdeal.S2x16384x1024 .bf16) (k v : Vec Ideal Cert.ReferenceIdeal.S2x16384x256 .f32)
  (s : Vec Ideal Cert.ReferenceIdeal.S16 .f32)

/-- The reference's attention row is the softmax with a sink of its scores, weighing its values. -/
theorem ref_row (b : Fin 2) (c : Fin 256) (kh gg : Fin 4) (r d : Fin 64) : val_main_v77 (F := Ideal) q k v s (ix6 b c r kh gg d)
    = softEach (fun t => val_main_v59 (F := Ideal) q k (ix6 b c kh gg r t)) (fun t => val_main_v13 (F := Ideal) v (ix5 b c t kh d))
      (s (ix1 ⟨4 * kh.val + gg.val, by omega⟩)) := by
  have hp : val_main_v64 (F := Ideal) q k s (ix6 b c kh gg r 0)
      = peak (fun t => val_main_v59 (F := Ideal) q k (ix6 b c kh gg r t)) (s (ix1 ⟨4 * kh.val + gg.val, by omega⟩)) := by
    rw [peak_at q k s b c kh gg r _ _ rfl rfl, top_at, sink_at, bot_word]; rfl
  have hw (t : Fin 192) : val_main_v67 (F := Ideal) q k s (ix6 b c kh gg r t)
      = weight (fun t => val_main_v59 (F := Ideal) q k (ix6 b c kh gg r t)) (s (ix1 ⟨4 * kh.val + gg.val, by omega⟩)) t := by
    rw [weight_at, hp]; rfl
  have hm : val_main_v73 (F := Ideal) q k s (ix6 b c kh gg r 0)
      = mass (fun t => val_main_v59 (F := Ideal) q k (ix6 b c kh gg r t)) (s (ix1 ⟨4 * kh.val + gg.val, by omega⟩)) := by
    rw [mass_at, sum_at, hp, sink_at, Finset.sum_congr rfl fun t _ => hw t]; rfl
  rw [attn_at]
  refine Finset.sum_congr rfl fun t _ => ?_
  rw [share_at, hw, hm]
  exact mul_comm _ _

/-- The score of a band row inside the sequence. -/
theorem score_in (b : Fin 2) (c : Fin 256) (kh gg : Fin 4) (r : Fin 64) (t : Fin 192) (h : 128 ≤ 64 * c.val + t.val) :
    val_main_v59 (F := Ideal) q k (ix6 b c kh gg r t)
      = (∑ d : Fin 64, k (ix3 b ⟨64 * c.val + t.val - 128, by omega⟩ ⟨64 * kh.val + d.val, by omega⟩)
          * q (ix3 b ⟨64 * c.val + r.val, by omega⟩ ⟨64 * (4 * kh.val + gg.val) + d.val, by omega⟩)) * Ideal.ofBits .f32 0x3E000000#32
        + -refSlope ⟨4 * kh.val + gg.val, by omega⟩ * FloatOps.sitofp (F := Ideal) .f32
          (IntOp.absi (IntOp.subi (IntOp.addi 128#32 (BitVec.ofNat 32 r.val)) (BitVec.ofNat 32 t.val))) := by
  rw [score_at, mask_at, if_pos h, dot_at, penalty_at, Finset.sum_congr rfl fun d _ => by rw [keys_at k b c t kh d h, queries_at]]
  rfl

/-- The score of a band row before the sequence. -/
theorem score_out (b : Fin 2) (c : Fin 256) (kh gg : Fin 4) (r : Fin 64) (t : Fin 192) (h : ¬128 ≤ 64 * c.val + t.val) :
    val_main_v59 (F := Ideal) q k (ix6 b c kh gg r t) = ⊥ := by
  rw [score_at, mask_at, if_neg h, bot_word]
  rfl

/-- With real queries and keys no score is +∞. -/
theorem score_ne_top (hq : ∀ i, ∃ x : ℝ, q i = (x : EReal)) (hk : ∀ i, ∃ x : ℝ, k i = (x : EReal))
    (b : Fin 2) (c : Fin 256) (kh gg : Fin 4) (r : Fin 64) (t : Fin 192) :
    val_main_v59 (F := Ideal) q k (ix6 b c kh gg r t) ≠ ⊤ := by
  by_cases h : 128 ≤ 64 * c.val + t.val
  · rw [score_in q k b c kh gg r t h]
    obtain ⟨x, hx⟩ := sum_real (fun d : Fin 64 => k (ix3 b ⟨64 * c.val + t.val - 128, by omega⟩ ⟨64 * kh.val + d.val, by omega⟩)
          * q (ix3 b ⟨64 * c.val + r.val, by omega⟩ ⟨64 * (4 * kh.val + gg.val) + d.val, by omega⟩)) fun d => by
      obtain ⟨y, hy⟩ := hk (ix3 b ⟨64 * c.val + t.val - 128, by omega⟩ ⟨64 * kh.val + d.val, by omega⟩)
      obtain ⟨z, hz⟩ := hq (ix3 b ⟨64 * c.val + r.val, by omega⟩ ⟨64 * (4 * kh.val + gg.val) + d.val, by omega⟩)
      exact ⟨y * z, by rw [hy, hz, EReal.coe_mul]⟩
    have hs : ∃ y : ℝ, Ideal.ofBits .f32 0x3E000000#32 = (y : EReal) := by
      simp [Ideal.ofBits, Ideal.ieee, -EReal.coe_mul]
    obtain ⟨y, hy⟩ := hs
    rw [hx, hy, refSlope_eq, ← EReal.coe_mul]
    change _ + -_ * ((_ : ℝ) : EReal) ≠ ⊤
    rw [← EReal.coe_neg, ← EReal.coe_mul, ← EReal.coe_add]
    exact EReal.coe_ne_top _
  · rw [score_out q k b c kh gg r t h]; exact bot_ne_top

end

end Cert.Attn
end
-- ==== Proof.AttnRow.lean ====
module

public import proofs.«01_k».proof.Defs
public import proofs.«01_k».proof.Proof.Gen.KernelIdeal.Value
public import proofs.«01_k».proof.Proof.AttnScore
public import Idealize.ShloMosaic.Lib.Pipeline.ValueKit
public import Idealize.ShloMosaic.Lib.Pointwise

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen

open Cert.ReferenceIdeal.Read

section

variable (q : Vec Ideal Cert.ReferenceIdeal.S2x16384x1024 .bf16) (k v : Vec Ideal Cert.ReferenceIdeal.S2x16384x256 .f32)
  (s : Vec Ideal Cert.ReferenceIdeal.S16 .f32)

/-- A window over the blocks of a sequence: its row `j` is row `256 blk + j - 128` of the sequence, where there is one. -/
theorem window_in (x : Vec Ideal Cert.ReferenceIdeal.S2x16384x256 .f32) (prev : Vec Ideal S1x128x256 .f32)
    (cur : Vec Ideal S1x256x256 .f32) (b : Fin 2) (blk : Fin 64)
    (hp : ∀ (_ : 0 < blk.val) (j : Fin 128) (n : Fin 256), prev (ix3 0 j n) = x (ix3 b ⟨256 * blk.val - 128 + j.val, by omega⟩ n))
    (hc : ∀ (j : Fin 256) (n : Fin 256), cur (ix3 0 j n) = x (ix3 b ⟨256 * blk.val + j.val, by omega⟩ n))
    (g : Fin 4) (j : Fin 384) (d : Fin 64) (h : 128 ≤ j.val ∨ 0 < blk.val) :
    window (F := Ideal) prev cur g (ix2 j d) = x (ix3 b ⟨256 * blk.val + j.val - 128, by omega⟩ ⟨64 * g.val + d.val, by omega⟩) := by
  rw [window_at]
  split_ifs with hj
  · rw [hp (by omega)]; congr 2; exact Fin.ext (by dsimp only; omega)
  · rw [hc]; congr 2; exact Fin.ext (by dsimp only; omega)

/-- A head's sink, as the kernel loads it. -/
theorem sink_ld (x0 : Vec Ideal S16 .f32) (h : Fin 16) :
    View.ld x0 (Rect.unit ![h.val] ![1] (inb_sink h)) (Shape.Idx.first Nat.one_pos) = x0 (ix1 h) := by
  refine congrArg x0 (funext fun a => Fin.ext ?_)
  match a with
  | ⟨0, _⟩ => rfl

variable (i : grid0.Coords) (x0 : Vec Ideal S16 .f32) (x1 : Vec Ideal S1x256x1024 .bf16) (x2 : Vec Ideal S1x128x256 .f32)
  (x3 : Vec Ideal S1x256x256 .f32) (x4 : Vec Ideal S1x128x256 .f32) (x5 : Vec Ideal S1x256x256 .f32)

/-- A grid point's block of a head is the reference's attention, where the point's input blocks are the sequence's. -/
theorem head_row (b : Fin 2) (blk : Fin 64) (hi : (i 1).val = blk.val)
    (h0 : ∀ h : Fin 16, x0 (ix1 h) = s (ix1 h))
    (h1 : ∀ (r : Fin 256) (n : Fin 1024), x1 (ix3 0 r n) = q (ix3 b ⟨256 * blk.val + r.val, by omega⟩ n))
    (h2 : ∀ (_ : 0 < blk.val) (j : Fin 128) (n : Fin 256), x2 (ix3 0 j n) = k (ix3 b ⟨256 * blk.val - 128 + j.val, by omega⟩ n))
    (h3 : ∀ (j : Fin 256) (n : Fin 256), x3 (ix3 0 j n) = k (ix3 b ⟨256 * blk.val + j.val, by omega⟩ n))
    (h4 : ∀ (_ : 0 < blk.val) (j : Fin 128) (n : Fin 256), x4 (ix3 0 j n) = v (ix3 b ⟨256 * blk.val - 128 + j.val, by omega⟩ n))
    (h5 : ∀ (j : Fin 256) (n : Fin 256), x5 (ix3 0 j n) = v (ix3 b ⟨256 * blk.val + j.val, by omega⟩ n))
    (hq : ∀ i, ∃ x : ℝ, q i = (x : EReal)) (hk : ∀ i, ∃ x : ℝ, k i = (x : EReal)) (hs : ∀ i, ∃ x : ℝ, s i = (x : EReal))
    (qc : Fin 4) (r : Fin 64) (kh gg : Fin 4) (d : Fin 64) :
    head (F := Ideal) i x0 x1 x2 x3 x4 x5 ⟨4 * kh.val + gg.val, by omega⟩ (ix2 ⟨64 * qc.val + r.val, by omega⟩ d)
      = val_main_v77 (F := Ideal) q k v s (ix6 b ⟨4 * blk.val + qc.val, by omega⟩ r kh gg d) := by
  have hkh : keyHead ⟨4 * kh.val + gg.val, by omega⟩ = kh := Fin.ext (by change (4 * kh.val + gg.val) / 4 = kh.val; omega)
  obtain ⟨z, hz⟩ := hs (ix1 ⟨4 * kh.val + gg.val, by omega⟩)
  have hsink := (sink_ld x0 ⟨4 * kh.val + gg.val, by omega⟩).trans ((h0 _).trans hz)
  unfold head
  dsimp only
  rw [hsink, soft_at, ref_row, hz, hkh, ← soft_eq_softEach _ _ z (score_ne_top q k hq hk b _ kh gg r)]
  refine soft_band _ _ _ _ z (fun t : Fin 192 => ⟨64 * qc.val + t.val, by omega⟩) (fun t t' h => ?_) (fun t => ?_) (fun j hj => ?_)
    (fun t ht => ?_)
  · exact Fin.ext (by have := Fin.ext_iff.1 h; dsimp only at this; omega)
  · unfold headLogits
    rw [logits_at, ok_at, hi, slope_eq, hkh, dist_at]
    by_cases h : 128 ≤ 64 * (4 * blk.val + qc.val) + t.val
    · rw [score_in q k b ⟨4 * blk.val + qc.val, by omega⟩ kh gg r t h, if_pos (by dsimp only; omega)]
      change (_ : EReal) - _ = _
      rw [apart_word qc.val r.val t.val, sub_eq_add_neg, EReal.neg_mul]
      congr 2
      refine Finset.sum_congr rfl fun d _ => ?_
      rw [headQ_at, h1, window_in k x2 x3 b blk h2 h3 kh _ d (by dsimp only; omega), mul_comm]
      congr 3 <;> exact Fin.ext (by dsimp only; omega)
    · rw [score_out q k b ⟨4 * blk.val + qc.val, by omega⟩ kh gg r t h, if_neg (by dsimp only; omega)]
      rfl
  · unfold headLogits
    rw [logits_at, ok_at, if_neg]
    · rfl
    · rintro ⟨⟨h1, h2⟩, -⟩
      dsimp only at h1 h2
      exact hj ⟨j.val - 64 * qc.val, by omega⟩ (Fin.ext (by dsimp only; omega))
  · have h : 128 ≤ 64 * (4 * blk.val + qc.val) + t.val := by
      by_contra h
      exact ht (score_out q k b ⟨4 * blk.val + qc.val, by omega⟩ kh gg r t h)
    rw [values_at v b ⟨4 * blk.val + qc.val, by omega⟩ t kh d h, window_in v x4 x5 b blk h4 h5 kh _ d (by dsimp only; omega)]
    congr 3; dsimp only; omega

end

end Cert.Attn
end
-- ==== Proof.AttnValue.lean ====
module

public import proofs.«01_k».proof.Defs
public import proofs.«01_k».proof.Proof.Gen.KernelIdeal.Value
public import proofs.«01_k».proof.Proof.AttnRow
public import Idealize.ShloMosaic.Lib.Pipeline.ValueKit
public import Idealize.ShloMosaic.Lib.Pointwise

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen

open Cert.ReferenceIdeal.Read

variable (m : (ℓ : Loc nD τ sig) → Buf (Elt Ideal) ℓ)

/-- Which block each window shows at a grid point: the point's coordinates are the sequence and the block of rows. -/
theorem idx : ∀ t : Fin cfg0.N,
    win0_0.index t = ![0] ∧
    win0_1.index t = ![(grid0.coords t 0).val, (grid0.coords t 1).val, 0] ∧
    win0_2.index t = ![(grid0.coords t 0).val, 2 * (grid0.coords t 1).val - 1, 0] ∧
    win0_3.index t = ![(grid0.coords t 0).val, (grid0.coords t 1).val, 0] ∧
    win0_4.index t = ![(grid0.coords t 0).val, 2 * (grid0.coords t 1).val - 1, 0] ∧
    win0_5.index t = ![(grid0.coords t 0).val, (grid0.coords t 1).val, 0] ∧
    win0_6.index t = ![0, 0] ∧
    win0_7.index t = ![(grid0.coords t 0).val, (grid0.coords t 1).val, 0] :=
  (by decide +kernel : ∀ t : Fin grid0.N, _)

/-- The first coordinate is a sequence. -/
theorem batch_lt (t : Fin cfg0.N) : (grid0.coords t 0).val < 2 := (grid0.coords t 0).isLt

/-- The second is one of the 64 blocks of rows. -/
theorem block_lt (t : Fin cfg0.N) : (grid0.coords t 1).val < 64 := (grid0.coords t 1).isLt

/-- The gain as one row. -/
theorem entry_gain (c : Dev nD) :
    V m c main_v0 = shapeCast S1x1024 (m ((c : Thread nD τ).loc main_arg4)) shapeCasts_S1024_S1x1024 := rfl

/-- The block of sinks is all of them. -/
theorem sinks_eq (c : Dev nD) (t : Fin cfg0.N) (h : Fin 16) :
    iblk m c 0 t (ix1 h) = m ((c : Thread nD τ).loc main_arg3) (ix1 h) := by
  blk_point [iblk, V, idx t]

/-- The gain's block is the gain. -/
theorem gain_eq (c : Dev nD) (t : Fin cfg0.N) (n : Fin 1024) :
    iblk m c 6 t (ix2 0 n) = m ((c : Thread nD τ).loc main_arg4) (ix1 n) := by
  blk_simp [iblk]
  rw [entry_gain]
  pointwise
  blk_ext [idx t]

/-- The queries' block. -/
theorem q_eq (c : Dev nD) (t : Fin cfg0.N) (r : Fin 256) (n : Fin 1024) :
    iblk m c 1 t (ix3 0 r n) = m ((c : Thread nD τ).loc main_arg0)
      (ix3 ⟨(grid0.coords t 0).val, batch_lt t⟩ ⟨256 * (grid0.coords t 1).val + r.val, by have := block_lt t; omega⟩ n) := by
  blk_point [iblk, V, idx t]

/-- The keys of the block's own rows. -/
theorem k_eq (c : Dev nD) (t : Fin cfg0.N) (j n : Fin 256) :
    iblk m c 3 t (ix3 0 j n) = m ((c : Thread nD τ).loc main_arg1)
      (ix3 ⟨(grid0.coords t 0).val, batch_lt t⟩ ⟨256 * (grid0.coords t 1).val + j.val, by have := block_lt t; omega⟩ n) := by
  blk_point [iblk, V, idx t]

/-- The values of the block's own rows. -/
theorem v_eq (c : Dev nD) (t : Fin cfg0.N) (j n : Fin 256) :
    iblk m c 5 t (ix3 0 j n) = m ((c : Thread nD τ).loc main_arg2)
      (ix3 ⟨(grid0.coords t 0).val, batch_lt t⟩ ⟨256 * (grid0.coords t 1).val + j.val, by have := block_lt t; omega⟩ n) := by
  blk_point [iblk, V, idx t]

/-- The keys of the 128 rows before the block, where there are such. -/
theorem kprev_eq (c : Dev nD) (t : Fin cfg0.N) (h : 0 < (grid0.coords t 1).val) (j : Fin 128) (n : Fin 256) :
    iblk m c 2 t (ix3 0 j n) = m ((c : Thread nD τ).loc main_arg1)
      (ix3 ⟨(grid0.coords t 0).val, batch_lt t⟩ ⟨256 * (grid0.coords t 1).val - 128 + j.val, by have := block_lt t; omega⟩ n) := by
  blk_point [iblk, V, idx t]

/-- The values of the 128 rows before the block, where there are such. -/
theorem vprev_eq (c : Dev nD) (t : Fin cfg0.N) (h : 0 < (grid0.coords t 1).val) (j : Fin 128) (n : Fin 256) :
    iblk m c 4 t (ix3 0 j n) = m ((c : Thread nD τ).loc main_arg2)
      (ix3 ⟨(grid0.coords t 0).val, batch_lt t⟩ ⟨256 * (grid0.coords t 1).val - 128 + j.val, by have := block_lt t; omega⟩ n) := by
  blk_point [iblk, V, idx t]

/-- The reference's result at the kernel's arguments. -/
def G7 (c : Dev nD) : Buf (Elt Ideal) ((c : Thread nD τ).loc main_v1) :=
  val_main_v92 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The heads of a grid point, side by side, are the reference's row before its norm. -/
theorem side_row (c : Dev nD) (t : Fin cfg0.N)
    (hq : ∀ i, ∃ x : ℝ, m ((c : Thread nD τ).loc main_arg0) i = (x : EReal))
    (hk : ∀ i, ∃ x : ℝ, m ((c : Thread nD τ).loc main_arg1) i = (x : EReal))
    (hs : ∀ i, ∃ x : ℝ, m ((c : Thread nD τ).loc main_arg3) i = (x : EReal)) (r : Fin 256) (n : Fin 1024) :
    side (head (F := Ideal) (grid0.coords t) (iblk m c 0 t) (iblk m c 1 t) (iblk m c 2 t) (iblk m c 3 t) (iblk m c 4 t)
        (iblk m c 5 t)) (ix2 r n)
      = val_main_v78 (F := Ideal) (m ((c : Thread nD τ).loc main_arg0)) (m ((c : Thread nD τ).loc main_arg1))
          (m ((c : Thread nD τ).loc main_arg2)) (m ((c : Thread nD τ).loc main_arg3))
          (ix3 ⟨(grid0.coords t 0).val, batch_lt t⟩ ⟨256 * (grid0.coords t 1).val + r.val, by have := block_lt t; omega⟩ n) := by
  have hb := block_lt t
  obtain ⟨qc, r', rfl⟩ : ∃ (qc : Fin 4) (r' : Fin 64), r = ⟨64 * qc.val + r'.val, by omega⟩ :=
    ⟨⟨r.val / 64, by omega⟩, ⟨r.val % 64, by omega⟩, Fin.ext (by dsimp only; omega)⟩
  obtain ⟨kh, gg, d, rfl⟩ : ∃ (kh gg : Fin 4) (d : Fin 64), n = ⟨64 * (4 * kh.val + gg.val) + d.val, by omega⟩ :=
    ⟨⟨n.val / 256, by omega⟩, ⟨n.val / 64 % 4, by omega⟩, ⟨n.val % 64, by omega⟩, Fin.ext (by dsimp only; omega)⟩
  refine (side_at _ ⟨4 * kh.val + gg.val, by omega⟩ d _).trans ?_
  refine (head_row _ _ _ _ (grid0.coords t) _ _ _ _ _ _ ⟨(grid0.coords t 0).val, batch_lt t⟩ ⟨(grid0.coords t 1).val, hb⟩ rfl
    (sinks_eq m c t) (q_eq m c t) (kprev_eq m c t) (k_eq m c t) (vprev_eq m c t) (v_eq m c t) hq hk hs qc r' kh gg d).trans ?_
  refine (row_at _ _ _ _ _ ⟨4 * (grid0.coords t 1).val + qc.val, by omega⟩ kh gg r' d).symm.trans ?_
  congr 2
  exact Fin.ext (by dsimp only; omega)

/-- The kernel's result is the reference's, where queries, keys and sinks are real numbers. -/
theorem final7 (c : Dev nD)
    (hq : ∀ i, ∃ x : ℝ, m ((c : Thread nD τ).loc main_arg0) i = (x : EReal))
    (hk : ∀ i, ∃ x : ℝ, m ((c : Thread nD τ).loc main_arg1) i = (x : EReal))
    (hs : ∀ i, ∃ x : ℝ, m ((c : Thread nD τ).loc main_arg3) i = (x : EReal)) :
    (dats m 0 c).arrAt 7 cfg0.N = G7 m c := by
  refine (dats m 0 c).arrAt_eq_of_covers 7 _ (by decide +kernel) fun t hf y => ?_
  obtain ⟨a, r, n, rfl⟩ : ∃ (a : Fin 1) (r : Fin 256) (n : Fin 1024), y = ix3 a r n := ⟨y 0, y 1, y 2, eq_ix3 y⟩
  have e : ((cfg0.win 7).blk t).view.emb (ix3 a r n) = (ix3 ⟨(grid0.coords t 0).val, batch_lt t⟩
      ⟨256 * (grid0.coords t 1).val + r.val, by have := block_lt t; omega⟩ n : S2x16384x1024.Idx) := by
    blk_ext [idx t]
  rw [e]
  blk_simp
  rw [after0_7, outsAt]
  unfold G7
  rw [norm_at _ _ _ _ _ _ _ _ _ _ rfl rfl, squares_at _ _ _ _ _ _ _ rfl]
  pointwise [k0_pay1]
  rw [rms_at, gain_eq]
  simp only [side_row m c t hq hk hs]
  generalize val_main_v78 (F := Ideal) _ _ _ _ = y
  rfl

end Cert.Attn
end
-- ==== Proof.AttnClaims.lean ====
module

public import proofs.«01_k».proof.Defs
public import proofs.«01_k».proof.Proof.AttnFrames
public import proofs.«01_k».proof.Proof.AttnValue
public import Idealize.ShloMosaic.Lib.Quiescent
public import Idealize.ShloMosaic.Lib.Pointwise

/-! The value claim about the attention call: where queries, keys and sinks are finite, the banded kernel computes the
    windowed attention with sinks and the norm after it. -/

@[expose] public section

noncomputable section

namespace Cert.Attn.Claims

open Idealize.ShloMosaic Idealize.ShloMosaic.TcCoe Idealize.SL.Sem
open Cert.KernelIdeal
open Cert.ReferenceIdeal.Read

/-- The shape relations of the predicate on the arguments. -/
theorem predicateFacts : Cert.Pre_finite_scores.Facts := ⟨by decide, by decide, by decide, by decide⟩

/-- The frames hold whatever the arguments, so of finite ones too. -/
theorem frameIdealFinite : @Cert.quiescent_KernelIdeal_pre_finite_scores Cert.KernelIdeal.Gen.facts predicateFacts :=
  fun m ρ _ => frameIdeal m ρ trivial

/-- The same for the reference. -/
theorem frameRefFinite : @Cert.quiescent_ReferenceIdeal_pre_finite_scores Cert.ReferenceIdeal.Gen.facts predicateFacts :=
  fun m ρ _ => frameRef m ρ trivial

/-- The bits of the largest magnitude are the top of the extended reals. -/
theorem top_word : Ideal.ofBits .f32 0x7F800000#32 = ⊤ := by simp [Ideal.ofBits, Ideal.ieee, -EReal.coe_mul]

/-- An extended real whose magnitude is below the top is a real number. -/
theorem real_of_abs_lt {x : EReal} (h : max x (-x) < ⊤) : ∃ y : ℝ, x = (y : EReal) := by
  induction x with
  | bot => simp at h
  | top => simp at h
  | coe y => exact ⟨y, rfl⟩

variable (m : (ℓ : Loc nD τ sig) → Buf (Elt Ideal) ℓ)

/-- Finite queries are real numbers. -/
theorem real_q (h : @Cert.Pre_KernelIdeal_finite_scores predicateFacts m) (c : Dev nD) (i) :
    ∃ x : ℝ, m ((c : Thread nD τ).loc main_arg0) i = (x : EReal) := by
  refine real_of_abs_lt ?_
  have e := congrFun (h c).1 i
  rw [← top_word]
  exact (Ideal.cmp_olt_eq_one _ _).1 e

/-- Finite keys are real numbers. -/
theorem real_k (h : @Cert.Pre_KernelIdeal_finite_scores predicateFacts m) (c : Dev nD) (i) :
    ∃ x : ℝ, m ((c : Thread nD τ).loc main_arg1) i = (x : EReal) := by
  refine real_of_abs_lt ?_
  have e := congrFun (h c).2.1 i
  rw [← top_word]
  exact (Ideal.cmp_olt_eq_one _ _).1 e

/-- Finite sinks are real numbers. -/
theorem real_s (h : @Cert.Pre_KernelIdeal_finite_scores predicateFacts m) (c : Dev nD) (i) :
    ∃ x : ℝ, m ((c : Thread nD τ).loc main_arg3) i = (x : EReal) := by
  refine real_of_abs_lt ?_
  have e := congrFun (h c).2.2 i
  rw [← top_word]
  exact (Ideal.cmp_olt_eq_one _ _).1 e

/-- Kernel and reference end with the same rows. -/
theorem algebraic : @Cert.algebraic_KernelIdeal_ReferenceIdeal_pre_finite_scores Cert.KernelIdeal.Gen.facts
    Cert.ReferenceIdeal.Gen.facts predicateFacts := by
  intro m ρ m' ρ' hpre hag
  refine ⟨fun c => G7 m c, ?_, ?_⟩
  · exact (θ_run Cert.KernelIdeal.defs _ _).mono
      (fun _ h c => ⟨(h c).1.trans (final7 m c (real_q m hpre c) (real_k m hpre c) (real_s m hpre c)), (h c).2⟩)
      (Cert.KernelIdeal.Value.run_blocks m ρ)
  · refine (θ_run Cert.ReferenceIdeal.defs _ _).mono (fun _ h c => ?_)
      (Cert.ReferenceIdeal.Value.run (F := Ideal) m' ρ')
    obtain ⟨a0, a1, a2, a3, a4⟩ := hag c
    refine ⟨(h c).1.trans ((val_main_v92_eq ..).trans ?_), (h c).2⟩
    rw [a0, a1, a2, a3, a4]; rfl

end Cert.Attn.Claims

end
-- ==== Proof.ModValue.lean ====
module

public import proofs.«01_k».proof.Defs
public import proofs.«01_k».proof.Proof.Gen.Kernel4Ideal.Value
public import proofs.«01_k».proof.Proof.Gen.Reference4Ideal.Read
public import Idealize.ShloMosaic.Lib.Pipeline.ValueKit
public import Idealize.ShloMosaic.Lib.Pointwise

@[expose] public section

set_option maxRecDepth 16384

noncomputable section

namespace Cert.Mod

open Idealize.ShloMosaic Idealize.ShloMosaic.TcCoe Idealize.SL.Sem
open Idealize.ShloMosaic.Pipeline (Dat)
open Cert.Kernel4Ideal Cert.Kernel4Ideal.Gen
open Cert.Reference4Ideal.Read

variable (m : (ℓ : Loc nD τ sig) → Buf (Elt Ideal) ℓ)

/-- Which block each window shows at a grid point: the point is the block of columns. -/
theorem idx : ∀ t : Fin cfg0.N,
    win0_0.index t = ![0, 0] ∧ win0_1.index t = ![0, (grid0.coords t 0).val] ∧
    win0_2.index t = ![0, (grid0.coords t 0).val] ∧ win0_3.index t = ![0, (grid0.coords t 0).val] :=
  (by decide +kernel : ∀ t : Fin grid0.N, _)

/-- A block's columns are columns of the whole. -/
theorem col_lt (t : Fin cfg0.N) (n : Fin 1536) : (grid0.coords t 0).val * 1536 + n.val < 12288 := by
  have h : (grid0.coords t 0).val < 8 := (grid0.coords t 0).isLt
  omega

/-- The bias as one row. -/
theorem entry_bias (c : Dev nD) :
    V m c main_v0 = shapeCast S1x12288 (m ((c : Thread nD τ).loc main_arg2)) shapeCasts_S12288_S1x12288 := rfl

/-- A vector laid out as one row. -/
theorem row_apply (x : S12288.Idx → EReal) (n : Fin 12288) :
    shapeCast S1x12288 x shapeCasts_S12288_S1x12288 (ix2 0 n) = x (ix1 n) := by
  pointwise

/-- The bias's block. -/
theorem bias_eq (c : Dev nD) (t : Fin cfg0.N) (n : Fin 1536) :
    iblk m c 2 t (ix2 0 n) = m ((c : Thread nD τ).loc main_arg2) (ix1 ⟨(grid0.coords t 0).val * 1536 + n.val, col_lt t n⟩) := by
  have e : ((cfg0.win 2).blk t).view.emb (ix2 0 n)
      = (ix2 0 ⟨(grid0.coords t 0).val * 1536 + n.val, col_lt t n⟩ : S1x12288.Idx) := by
    blk_ext [idx t]
  blk_simp [iblk]
  rw [entry_bias, e]
  exact row_apply _ _

/-- The reference's modulation at the kernel's arguments. -/
def G3 (c : Dev nD) : Buf (Elt Ideal) ((c : Thread nD τ).loc main_v1) :=
  val_main_v4 (F := Ideal) (m ((c : Thread nD τ).loc main_arg0)) (m ((c : Thread nD τ).loc main_arg1))
    (m ((c : Thread nD τ).loc main_arg2))

/-- The kernel's modulation is the reference's. -/
theorem final3 (c : Dev nD) : (dats m 0 c).arrAt 3 cfg0.N = G3 m c := by
  refine (dats m 0 c).arrAt_eq_of_covers 3 _ (by decide +kernel) fun t hf y => ?_
  obtain ⟨r, n, rfl⟩ : ∃ (r : Fin 32) (n : Fin 1536), y = ix2 r n := ⟨y 0, y 1, eq_ix2 y⟩
  have e : ((cfg0.win 3).blk t).view.emb (ix2 r n)
      = (ix2 r ⟨(grid0.coords t 0).val * 1536 + n.val, col_lt t n⟩ : S32x12288.Idx) := by
    blk_ext [idx t]
  rw [e]
  blk_simp
  rw [after0_3]
  frame_out
  unfold G3
  pointwise [k0_pay1, val_main_v4, val_main_v3, val_main_v2, val_main_v1, val_main_v0, val_main_call0_v5, val_main_call0_v4,
    val_main_call0_v3, val_main_call0_v2, val_main_call0_v1, val_main_call0_v0, val_main_call0_cst, val_main_call0_cst_0]
  simp only [bias_eq, Ideal.logistic]
  blk_point [iblk, V, idx t]

end Cert.Mod

end
-- ==== Proof.ModClaims.lean ====
module

public import proofs.«01_k».proof.Defs
public import proofs.«01_k».proof.Proof.ModValue
public import proofs.«01_k».proof.Proof.Gen.Kernel4.Frame
public import proofs.«01_k».proof.Proof.Gen.Kernel4Ideal.Frame
public import proofs.«01_k».proof.Proof.Gen.Reference4Ideal.Run
public import Idealize.ShloMosaic.Lib.Quiescent

/-! The claims about the modulation: the gated condition times its weight, plus the bias. -/

@[expose] public section

noncomputable section

namespace Cert.Mod.Claims

open Idealize.ShloMosaic Idealize.ShloMosaic.TcCoe Idealize.SL.Sem
open Cert.Reference4Ideal.Read

/-- The kernel leaves its arguments as they were and its semaphores at zero. -/
theorem frame : Cert.quiescent_Kernel4 := fun m ρ _ => Cert.Kernel4.Gen.frame m ρ

/-- So does its reading over the extended reals. -/
theorem frameIdeal : Cert.quiescent_Kernel4Ideal := fun m ρ _ => Cert.Kernel4Ideal.Gen.frame m ρ

/-- The reference is a host program without semaphores: its run keeps every argument. -/
theorem frameRef : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- No operation was rewritten on the way to the extended reals. -/
theorem preserves : Cert.preserves_Kernel4_Kernel4Ideal := trivial

/-- Kernel and reference end with the same modulation. -/
theorem algebraic : Cert.algebraic_Kernel4Ideal_Reference4Ideal := by
  intro m ρ m' ρ' _ hag
  refine ⟨fun c => G3 m c, ?_, ?_⟩
  · exact (θ_run Cert.Kernel4Ideal.defs _ _).mono (fun _ h c => ⟨(h c).1.trans (final3 m c), (h c).2⟩)
      (Cert.Kernel4Ideal.Value.run_blocks m ρ)
  · refine (θ_run Cert.Reference4Ideal.defs _ _).mono (fun _ h c => ?_)
      (Cert.Reference4Ideal.Value.run (F := Ideal) m' ρ')
    obtain ⟨a0, a1, a2⟩ := hag c
    refine ⟨(h c).1.trans ((val_main_v4_eq ..).trans ?_), (h c).2⟩
    rw [a0, a1, a2]; rfl

end Cert.Mod.Claims

end
-- ==== Proof.SampleValue.lean ====
module

public import proofs.«01_k».proof.Defs
public import proofs.«01_k».proof.Proof.Gen.Kernel5Ideal.Value
public import proofs.«01_k».proof.Proof.Gen.Reference5Ideal.Read
public import Idealize.ShloMosaic.Lib.Pipeline.ValueKit
public import Idealize.ShloMosaic.Lib.Pointwise

@[expose] public section

set_option maxRecDepth 16384

noncomputable section

namespace Cert.Sample

open Idealize.ShloMosaic Idealize.ShloMosaic.TcCoe Idealize.SL.Sem
open Idealize.ShloMosaic.Pipeline (Dat)
open Cert.Kernel5Ideal Cert.Kernel5Ideal.Gen
open Cert.Reference5Ideal.Read

variable (m : (ℓ : Loc nD τ sig) → Buf (Elt Ideal) ℓ)

/-- Which block each window shows at a grid point: the second coordinate is the block of 256 rows. -/
theorem idx : ∀ t : Fin cfg0.N,
    win0_0.index t = ![0, (grid0.coords t 1).val, 0] ∧
    win0_1.index t = ![0, (grid0.coords t 1).val, 0] ∧
    win0_2.index t = ![0, (grid0.coords t 1).val, 0] ∧
    win0_3.index t = ![0, 0] ∧
    win0_4.index t = ![0, 0] ∧
    win0_5.index t = ![0, 0] ∧
    win0_6.index t = ![0, 0] ∧
    win0_7.index t = ![0, 0] ∧
    win0_8.index t = ![0, 0] ∧
    win0_9.index t = ![0, 0] ∧
    win0_10.index t = ![0, (grid0.coords t 1).val, 0] ∧
    win0_11.index t = ![0, (grid0.coords t 1).val, 0] ∧
    win0_12.index t = ![0, (grid0.coords t 1).val, 0] ∧
    win0_13.index t = ![0, (grid0.coords t 1).val, 0] ∧
    win0_14.index t = ![0, (grid0.coords t 1).val, 0] ∧
    win0_15.index t = ![0, (grid0.coords t 1).val, 0] :=
  (by decide +kernel : ∀ t : Fin grid0.N, _)

/-- The modulated, normalised hidden rows: what every projection multiplies. -/
abbrev H (c : Dev nD) :=
  val_main_v18 (F := Ideal) (m ((c : Thread nD τ).loc main_arg0)) (m ((c : Thread nD τ).loc main_arg1))
    (m ((c : Thread nD τ).loc main_arg2)) (m ((c : Thread nD τ).loc main_arg3))

/-- The place of a block's row among all 512 rows. -/
abbrev row (t : Fin cfg0.N) (r : Fin 256) : ℕ := (grid0.coords t 1).val * 256 + r.val

/-- There are 512 rows. -/
theorem row_lt (t : Fin cfg0.N) (r : Fin 256) : row t r < 512 := by
  have h1 : (grid0.coords t 1).val < 2 := (grid0.coords t 1).isLt
  unfold row
  omega

/-- Each sample has 32 of the rows. -/
theorem seq_lt (t : Fin cfg0.N) (r : Fin 256) : row t r / 32 < 16 := by
  have := row_lt t r
  omega

/-- The place of a row within its sample. -/
theorem pos_lt (t : Fin cfg0.N) (r : Fin 256) : row t r % 32 < 32 := Nat.mod_lt _ (by omega)

/-! ## The arrays the host prepares before the launch -/

/-- The samples' rows, one after the other. -/
theorem entry_x (c : Dev nD) : V m c main_v0 = shapeCast S1x512x2048 (m ((c : Thread nD τ).loc main_arg0)) shapeCasts_S16x32x2048_S1x512x2048 := rfl

/-- The samples' rows, one after the other, at a row. -/
theorem rows_apply (x : S16x32x2048.Idx → EReal) (R : Fin 512) (k : Fin 2048) :
    shapeCast S1x512x2048 x shapeCasts_S16x32x2048_S1x512x2048 (ix3 0 R k)
      = x (ix3 ⟨R.val / 32, by omega⟩ ⟨R.val % 32, by omega⟩ k) := by
  pointwise

/-- The shift, one copy for each row. -/
theorem entry_shift (c : Dev nD) : V m c main_v2 = shapeCast S1x512x2048
    (broadcastInDim S16x32x2048 ![0, 1, 2] bcast_S16x1x2048_S16x32x2048_0_1_2 (m ((c : Thread nD τ).loc main_arg1) : FVec Ideal S16x1x2048 .f32))
    shapeCasts_S16x32x2048_S1x512x2048 := rfl

/-- The scale, one copy for each row. -/
theorem entry_scale (c : Dev nD) : V m c main_v4 = shapeCast S1x512x2048
    (broadcastInDim S16x32x2048 ![0, 1, 2] bcast_S16x1x2048_S16x32x2048_0_1_2 (m ((c : Thread nD τ).loc main_arg2) : FVec Ideal S16x1x2048 .f32))
    shapeCasts_S16x32x2048_S1x512x2048 := rfl

/-- A block's rows are rows of the samples. -/
theorem x_eq (c : Dev nD) (t : Fin cfg0.N) (r : Fin 256) (k : Fin 2048) :
    iblk m c 0 t (ix3 0 r k) = m ((c : Thread nD τ).loc main_arg0) (ix3 ⟨row t r / 32, seq_lt t r⟩ ⟨row t r % 32, pos_lt t r⟩ k) := by
  have e : ((cfg0.win 0).blk t).view.emb (ix3 0 r k) = (ix3 0 ⟨row t r, row_lt t r⟩ k : S1x512x2048.Idx) := by
    blk_ext [idx t]
  blk_simp [iblk]
  rw [entry_x, e]
  exact rows_apply _ _ _

/-- A row's shift is its sample's. -/
theorem shift_eq (c : Dev nD) (t : Fin cfg0.N) (r : Fin 256) (k : Fin 2048) :
    iblk m c 1 t (ix3 0 r k) = m ((c : Thread nD τ).loc main_arg1) (ix3 ⟨row t r / 32, seq_lt t r⟩ 0 k) := by
  have e : ((cfg0.win 1).blk t).view.emb (ix3 0 r k) = (ix3 0 ⟨row t r, row_lt t r⟩ k : S1x512x2048.Idx) := by
    blk_ext [idx t]
  blk_simp [iblk]
  rw [entry_shift, e]
  refine (rows_apply _ _ _).trans ?_
  pointwise

/-- A row's scale is its sample's. -/
theorem scale_eq (c : Dev nD) (t : Fin cfg0.N) (r : Fin 256) (k : Fin 2048) :
    iblk m c 2 t (ix3 0 r k) = m ((c : Thread nD τ).loc main_arg2) (ix3 ⟨row t r / 32, seq_lt t r⟩ 0 k) := by
  have e : ((cfg0.win 2).blk t).view.emb (ix3 0 r k) = (ix3 0 ⟨row t r, row_lt t r⟩ k : S1x512x2048.Idx) := by
    blk_ext [idx t]
  blk_simp [iblk]
  rw [entry_scale, e]
  refine (rows_apply _ _ _).trans ?_
  pointwise

/-- The norm's gain as one row. -/
theorem entry_gain (c : Dev nD) : V m c main_v13 = shapeCast S1x2048 (m ((c : Thread nD τ).loc main_arg3)) shapeCasts_S2048_S1x2048 := rfl

/-- The projection matrix, rounded; at the extended reals the rounding is the identity. -/
abbrev W (c : Dev nD) : FVec Ideal S2048x4624 .bf16 :=
  truncf .bf16 (m ((c : Thread nD τ).loc main_arg4) : FVec Ideal S2048x4624 .f32) bitsLt_bf16_f32

/-- The columns of the weight that the host cuts out for the queries. -/
theorem entry_q (c : Dev nD) : V m c main_v8 = extractStridedSlice S2048x1024 ![0, 0] (W m c) slices_S2048x4624_S2048x1024_0_0 := rfl

/-- The columns of the weight that the host cuts out for the keys. -/
theorem entry_k (c : Dev nD) : V m c main_v9 = extractStridedSlice S2048x256 ![0, 1024] (W m c) slices_S2048x4624_S2048x256_0_1024 := rfl

/-- The columns of the weight that the host cuts out for the values. -/
theorem entry_v (c : Dev nD) : V m c main_v10 = extractStridedSlice S2048x256 ![0, 1280] (W m c) slices_S2048x4624_S2048x256_0_1280 := rfl

/-- The columns of the weight that the host cuts out for the gate. -/
theorem entry_z (c : Dev nD) : V m c main_v11 = extractStridedSlice S2048x1024 ![0, 1536] (W m c) slices_S2048x4624_S2048x1024_0_1536 := rfl

/-- The columns of the weight that the host cuts out for the convolution rows. -/
theorem entry_xbc (c : Dev nD) : V m c main_v12 = extractStridedSlice S2048x2048 ![0, 2560] (W m c) slices_S2048x4624_S2048x2048_0_2560 := rfl

/-- The columns of the weight that the host cuts out for the step sizes, padded to 128 lanes. -/
theorem entry_dt (c : Dev nD) : V m c main_v7 = pad S2048x128 ![0, 0] ![0, 112] ![0, 0]
    (extractStridedSlice S2048x16 ![0, 4608] (W m c) slices_S2048x4624_S2048x16_0_4608)
    (sitofp .bf16 (constantI S_ 32 0#32)) pads_S2048x16_S2048x128_000_01120 h_S_ := rfl

/-- The gain's block is the gain. -/
theorem gain_eq (c : Dev nD) (t : Fin cfg0.N) (k : Fin 2048) :
    iblk m c 3 t (ix2 0 k) = m ((c : Thread nD τ).loc main_arg3) (ix1 k) := by
  blk_simp [iblk]
  rw [entry_gain]
  pointwise
  blk_ext [idx t]

/-- The weights of the queries, entry by entry. -/
theorem weight_q (c : Dev nD) (t : Fin cfg0.N) (k : Fin 2048) (n : Fin 1024) :
    iblk m c 4 t (ix2 k n) = m ((c : Thread nD τ).loc main_arg4) (ix2 k ⟨ n.val, by omega⟩) := by
  blk_simp [iblk]
  rw [entry_q]
  pointwise
  blk_ext [idx t]

/-- The weights of the keys, entry by entry. -/
theorem weight_k (c : Dev nD) (t : Fin cfg0.N) (k : Fin 2048) (n : Fin 256) :
    iblk m c 5 t (ix2 k n) = m ((c : Thread nD τ).loc main_arg4) (ix2 k ⟨1024 + n.val, by omega⟩) := by
  blk_simp [iblk]
  rw [entry_k]
  pointwise
  blk_ext [idx t]

/-- The weights of the values, entry by entry. -/
theorem weight_v (c : Dev nD) (t : Fin cfg0.N) (k : Fin 2048) (n : Fin 256) :
    iblk m c 6 t (ix2 k n) = m ((c : Thread nD τ).loc main_arg4) (ix2 k ⟨1280 + n.val, by omega⟩) := by
  blk_simp [iblk]
  rw [entry_v]
  pointwise
  blk_ext [idx t]

/-- The weights of the gate, entry by entry. -/
theorem weight_z (c : Dev nD) (t : Fin cfg0.N) (k : Fin 2048) (n : Fin 1024) :
    iblk m c 7 t (ix2 k n) = m ((c : Thread nD τ).loc main_arg4) (ix2 k ⟨1536 + n.val, by omega⟩) := by
  blk_simp [iblk]
  rw [entry_z]
  pointwise
  blk_ext [idx t]

/-- The weights of the convolution rows, entry by entry. -/
theorem weight_xbc (c : Dev nD) (t : Fin cfg0.N) (k : Fin 2048) (n : Fin 2048) :
    iblk m c 8 t (ix2 k n) = m ((c : Thread nD τ).loc main_arg4) (ix2 k ⟨2560 + n.val, by omega⟩) := by
  blk_simp [iblk]
  rw [entry_xbc]
  pointwise
  blk_ext [idx t]

/-- The integer zero the host pads with is the number zero. -/
theorem zero_word {φ : FTy} : (FloatOps.sitofp (F := Ideal) φ (0#32 : BitVec 32) : EReal) = 0 := by
  show (((0#32 : BitVec 32).toInt : ℝ) : EReal) = 0
  norm_num

/-- The step-size weights stand in the first 16 of 128 lanes; the host fills the others with zeros. -/
theorem weight_dt (c : Dev nD) (t : Fin cfg0.N) (k : Fin 2048) (n : Fin 128) :
    iblk m c 9 t (ix2 k n)
      = if h : n.val < 16 then m ((c : Thread nD τ).loc main_arg4) (ix2 k ⟨4608 + n.val, by omega⟩) else (0 : EReal) := by
  have e : ((cfg0.win 9).blk t).view.emb (ix2 k n) = (ix2 k n : S2048x128.Idx) := by
    blk_ext [idx t]
  have hk : k.val < 2048 := k.isLt
  blk_simp [iblk]
  rw [entry_dt, e]
  pointwise
  by_cases h : n.val < 16
  · simp only [dif_pos h]
  · simp only [dif_neg h]
    exact zero_word

/-- The hidden row that a grid point forms is the reference's row at the block's place. -/
theorem hidden_eq (c : Dev nD) (t : Fin cfg0.N) (r : Fin 256) (k : Fin 2048) :
    k0_pay1 (iblk m c 0 t) (iblk m c 3 t) (iblk m c 2 t) (iblk m c 1 t) (ix2 r k)
      = H m c (ix3 ⟨row t r / 32, seq_lt t r⟩ ⟨row t r % 32, pos_lt t r⟩ k) := by
  unfold H
  pointwise [k0_pay1, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [gain_eq, x_eq, shift_eq, scale_eq]

/-- The reference's queries at the kernel's arguments. -/
def G10 (c : Dev nD) : Buf (Elt Ideal) ((c : Thread nD τ).loc main_v14_0) :=
  val_main_v27 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The kernel's queries are the reference's. -/
theorem final10 (c : Dev nD) : (dats m 0 c).arrAt 10 cfg0.N = G10 m c := by
  refine (dats m 0 c).arrAt_eq_of_covers 10 _ (by decide +kernel) fun t hf y => ?_
  obtain ⟨a, r, n, rfl⟩ : ∃ (a : Fin 1) (r : Fin 256) (n : Fin 1024), y = ix3 a r n := ⟨y 0, y 1, y 2, eq_ix3 y⟩
  have e : ((cfg0.win 10).blk t).view.emb (ix3 a r n) = (ix3 0 ⟨row t r, row_lt t r⟩ n : S1x512x1024.Idx) := by
    blk_ext [idx t]
  rw [e]
  blk_simp
  rw [after0_10]
  unfold_out out0_10
  frame_out
  unfold G10
  pointwise [k0_pay2, k0_pay3, k0_pay4, k0_pay5, k0_pay6, k0_pay7, k0_pay8, val_main_v19, val_main_v20, val_main_v21, val_main_v22, val_main_v23, val_main_v24, val_main_v25, val_main_v26, val_main_v27, val_main_v28, val_main_v29, val_main_v30, val_main_v31, val_main_v32, val_main_v33, val_main_call0_v0, val_main_c]
  simp only [hidden_eq m c t, H, weight_q m c t]

/-- The reference's keys at the kernel's arguments. -/
def G11 (c : Dev nD) : Buf (Elt Ideal) ((c : Thread nD τ).loc main_v14_1) :=
  val_main_v28 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The kernel's keys are the reference's. -/
theorem final11 (c : Dev nD) : (dats m 0 c).arrAt 11 cfg0.N = G11 m c := by
  refine (dats m 0 c).arrAt_eq_of_covers 11 _ (by decide +kernel) fun t hf y => ?_
  obtain ⟨a, r, n, rfl⟩ : ∃ (a : Fin 1) (r : Fin 256) (n : Fin 256), y = ix3 a r n := ⟨y 0, y 1, y 2, eq_ix3 y⟩
  have e : ((cfg0.win 11).blk t).view.emb (ix3 a r n) = (ix3 0 ⟨row t r, row_lt t r⟩ n : S1x512x256.Idx) := by
    blk_ext [idx t]
  rw [e]
  blk_simp
  rw [after0_11]
  unfold_out out0_11
  frame_out
  unfold G11
  pointwise [k0_pay2, k0_pay3, k0_pay4, k0_pay5, k0_pay6, k0_pay7, k0_pay8, val_main_v19, val_main_v20, val_main_v21, val_main_v22, val_main_v23, val_main_v24, val_main_v25, val_main_v26, val_main_v27, val_main_v28, val_main_v29, val_main_v30, val_main_v31, val_main_v32, val_main_v33, val_main_call0_v0, val_main_c]
  simp only [hidden_eq m c t, H, weight_k m c t]

/-- The reference's values at the kernel's arguments. -/
def G12 (c : Dev nD) : Buf (Elt Ideal) ((c : Thread nD τ).loc main_v14_2) :=
  val_main_v29 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The kernel's values are the reference's. -/
theorem final12 (c : Dev nD) : (dats m 0 c).arrAt 12 cfg0.N = G12 m c := by
  refine (dats m 0 c).arrAt_eq_of_covers 12 _ (by decide +kernel) fun t hf y => ?_
  obtain ⟨a, r, n, rfl⟩ : ∃ (a : Fin 1) (r : Fin 256) (n : Fin 256), y = ix3 a r n := ⟨y 0, y 1, y 2, eq_ix3 y⟩
  have e : ((cfg0.win 12).blk t).view.emb (ix3 a r n) = (ix3 0 ⟨row t r, row_lt t r⟩ n : S1x512x256.Idx) := by
    blk_ext [idx t]
  rw [e]
  blk_simp
  rw [after0_12]
  unfold_out out0_12
  frame_out
  unfold G12
  pointwise [k0_pay2, k0_pay3, k0_pay4, k0_pay5, k0_pay6, k0_pay7, k0_pay8, val_main_v19, val_main_v20, val_main_v21, val_main_v22, val_main_v23, val_main_v24, val_main_v25, val_main_v26, val_main_v27, val_main_v28, val_main_v29, val_main_v30, val_main_v31, val_main_v32, val_main_v33, val_main_call0_v0, val_main_c]
  simp only [hidden_eq m c t, H, weight_v m c t]

/-- The reference's gates at the kernel's arguments. -/
def G13 (c : Dev nD) : Buf (Elt Ideal) ((c : Thread nD τ).loc main_v14_3) :=
  val_main_v30 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The kernel's gates are the reference's. -/
theorem final13 (c : Dev nD) : (dats m 0 c).arrAt 13 cfg0.N = G13 m c := by
  refine (dats m 0 c).arrAt_eq_of_covers 13 _ (by decide +kernel) fun t hf y => ?_
  obtain ⟨a, r, n, rfl⟩ : ∃ (a : Fin 1) (r : Fin 256) (n : Fin 1024), y = ix3 a r n := ⟨y 0, y 1, y 2, eq_ix3 y⟩
  have e : ((cfg0.win 13).blk t).view.emb (ix3 a r n) = (ix3 0 ⟨row t r, row_lt t r⟩ n : S1x512x1024.Idx) := by
    blk_ext [idx t]
  rw [e]
  blk_simp
  rw [after0_13]
  unfold_out out0_13
  frame_out
  unfold G13
  pointwise [k0_pay2, k0_pay3, k0_pay4, k0_pay5, k0_pay6, k0_pay7, k0_pay8, val_main_v19, val_main_v20, val_main_v21, val_main_v22, val_main_v23, val_main_v24, val_main_v25, val_main_v26, val_main_v27, val_main_v28, val_main_v29, val_main_v30, val_main_v31, val_main_v32, val_main_v33, val_main_call0_v0, val_main_c]
  simp only [hidden_eq m c t, H, weight_z m c t]

/-- The reference's convolution inputs at the kernel's arguments. -/
def G14 (c : Dev nD) : Buf (Elt Ideal) ((c : Thread nD τ).loc main_v14_4) :=
  val_main_v31 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The kernel's convolution inputs are the reference's. -/
theorem final14 (c : Dev nD) : (dats m 0 c).arrAt 14 cfg0.N = G14 m c := by
  refine (dats m 0 c).arrAt_eq_of_covers 14 _ (by decide +kernel) fun t hf y => ?_
  obtain ⟨a, r, n, rfl⟩ : ∃ (a : Fin 1) (r : Fin 256) (n : Fin 2048), y = ix3 a r n := ⟨y 0, y 1, y 2, eq_ix3 y⟩
  have e : ((cfg0.win 14).blk t).view.emb (ix3 a r n) = (ix3 0 ⟨row t r, row_lt t r⟩ n : S1x512x2048.Idx) := by
    blk_ext [idx t]
  rw [e]
  blk_simp
  rw [after0_14]
  unfold_out out0_14
  frame_out
  unfold G14
  pointwise [k0_pay2, k0_pay3, k0_pay4, k0_pay5, k0_pay6, k0_pay7, k0_pay8, val_main_v19, val_main_v20, val_main_v21, val_main_v22, val_main_v23, val_main_v24, val_main_v25, val_main_v26, val_main_v27, val_main_v28, val_main_v29, val_main_v30, val_main_v31, val_main_v32, val_main_v33, val_main_call0_v0, val_main_c]
  simp only [hidden_eq m c t, H, weight_xbc m c t]

/-- The reference's step sizes at the kernel's arguments. -/
def G15 (c : Dev nD) : Buf (Elt Ideal) ((c : Thread nD τ).loc main_v14_5) :=
  val_main_v33 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The kernel's step sizes are the reference's. -/
theorem final15 (c : Dev nD) : (dats m 0 c).arrAt 15 cfg0.N = G15 m c := by
  refine (dats m 0 c).arrAt_eq_of_covers 15 _ (by decide +kernel) fun t hf y => ?_
  obtain ⟨a, r, n, rfl⟩ : ∃ (a : Fin 1) (r : Fin 256) (n : Fin 128), y = ix3 a r n := ⟨y 0, y 1, y 2, eq_ix3 y⟩
  have e : ((cfg0.win 15).blk t).view.emb (ix3 a r n) = (ix3 0 ⟨row t r, row_lt t r⟩ n : S1x512x128.Idx) := by
    blk_ext [idx t]
  rw [e]
  blk_simp
  rw [after0_15]
  unfold_out out0_15
  frame_out
  unfold G15
  pointwise [k0_pay2, k0_pay3, k0_pay4, k0_pay5, k0_pay6, k0_pay7, k0_pay8, val_main_v19, val_main_v20, val_main_v21, val_main_v22, val_main_v23, val_main_v24, val_main_v25, val_main_v26, val_main_v27, val_main_v28, val_main_v29, val_main_v30, val_main_v31, val_main_v32, val_main_v33, val_main_call0_v0, val_main_c]
  simp only [hidden_eq m c t, H, weight_dt m c t]
  by_cases h : n.val < 16
  · simp only [dif_pos h]
    rw [dif_pos ⟨row_lt t r, h⟩]
  · simp only [dif_neg h, mul_zero, Finset.sum_const_zero]
    rw [dif_neg fun h' => h h'.2]
    exact zero_word.symm

end Cert.Sample

end
-- ==== Proof.SampleClaims.lean ====
module

public import proofs.«01_k».proof.Defs
public import proofs.«01_k».proof.Proof.SampleValue
public import proofs.«01_k».proof.Proof.Gen.Kernel5.Frame
public import proofs.«01_k».proof.Proof.Gen.Kernel5Ideal.Frame
public import proofs.«01_k».proof.Proof.Gen.Reference5Ideal.Run
public import Idealize.ShloMosaic.Lib.Quiescent

/-! The claims about the input projection of the sampled rows: the same call over 16 samples of 32 rows each, which
    the host lays out as one sequence. -/

@[expose] public section

noncomputable section

namespace Cert.Sample.Claims

open Idealize.ShloMosaic Idealize.ShloMosaic.TcCoe Idealize.SL.Sem
open Cert.Reference5Ideal.Read

/-- The kernel leaves its arguments as they were and its semaphores at zero. -/
theorem frame : Cert.quiescent_Kernel5 := fun m ρ _ => Cert.Kernel5.Gen.frame m ρ

/-- So does its reading over the extended reals. -/
theorem frameIdeal : Cert.quiescent_Kernel5Ideal := fun m ρ _ => Cert.Kernel5Ideal.Gen.frame m ρ

/-- The reference is a host program without semaphores: its run keeps every argument. -/
theorem frameRef : Cert.quiescent_Reference5Ideal := fun m ρ _ =>
  (θ_run Cert.Reference5Ideal.defs _ _).mono (fun r h => ⟨fun c => (h c).2.2.2.2.2.2,
      Idealize.ShloMosaic.sem_eq_zero_of_no_sems (by decide) r.2⟩)
    (Cert.Reference5Ideal.Value.run (F := Ideal) m ρ)

/-- No operation was rewritten on the way to the extended reals. -/
theorem preserves : Cert.preserves_Kernel5_Kernel5Ideal := trivial

/-- Kernel and reference end with the same six arrays. -/
theorem algebraic : Cert.algebraic_Kernel5Ideal_Reference5Ideal := by
  intro m ρ m' ρ' _ hag
  refine ⟨fun c => G10 m c, fun c => G11 m c, fun c => G12 m c, fun c => G13 m c, fun c => G14 m c, fun c => G15 m c, ?_, ?_⟩
  · exact (θ_run Cert.Kernel5Ideal.defs _ _).mono
      (fun _ h c => ⟨(h c).1.trans (final10 m c), (h c).2.1.trans (final11 m c), (h c).2.2.1.trans (final12 m c),
        (h c).2.2.2.1.trans (final13 m c), (h c).2.2.2.2.1.trans (final14 m c),
        (h c).2.2.2.2.2.1.trans (final15 m c), (h c).2.2.2.2.2.2⟩)
      (Cert.Kernel5Ideal.Value.run_blocks m ρ)
  · refine (θ_run Cert.Reference5Ideal.defs _ _).mono (fun _ h c => ?_)
      (Cert.Reference5Ideal.Value.run (F := Ideal) m' ρ')
    obtain ⟨a0, a1, a2, a3, a4⟩ := hag c
    refine ⟨(h c).1.trans ((val_main_v27_eq ..).trans ?_), (h c).2.1.trans ((val_main_v28_eq ..).trans ?_),
      (h c).2.2.1.trans ((val_main_v29_eq ..).trans ?_), (h c).2.2.2.1.trans ((val_main_v30_eq ..).trans ?_),
      (h c).2.2.2.2.1.trans ((val_main_v31_eq ..).trans ?_), (h c).2.2.2.2.2.1.trans ((val_main_v33_eq ..).trans ?_),
      (h c).2.2.2.2.2.2⟩
    all_goals rw [a0, a1, a2, a3, a4]; rfl

end Cert.Sample.Claims

end
-- ==== Proof.SsdMath.lean ====
module

public import proofs.«01_k».proof.Defs
public import Idealize.ShloMosaic.Lib.Pipeline.ValueKit
public import Idealize.ShloMosaic.Lib.Pointwise

@[expose] public section

set_option maxRecDepth 16384

noncomputable section

/-! # The mathematics of the state-space mixer

One sequence of 32 steps, one head, at the extended reals. `X l` is one channel of the head's input at step `l`, `D l` the head's step size, `C l` the
running sum of the logarithms of its decay, `Bm l n` and `Cm l n` what the group writes to and reads from entry `n` of the state. -/

namespace Cert.SsdMath

open Idealize.ShloMosaic Idealize.ShloMosaic.TcCoe

/-- The softplus of a raw step size, as both programs form it. -/
def softplus (x : EReal) : EReal := max x 0 + Ideal.log1p (Ideal.exp (-FloatOps.absf (F := Ideal) (φ := .f32) x))

/-- The state after the last step: the state before, decayed over all steps, and what each step added, decayed over the steps after it. -/
def stateAt (Bm X D C : Fin 32 → EReal) (H : EReal) : EReal :=
  H * Ideal.exp (C 31) + ∑ l, Bm l * (X l * D l * Ideal.exp (C 31 - C l))

/-- The output of step `l`: what the steps `s` not after it added, what the state before the first step holds, and the input itself. -/
def outAt (Bm Cm : Fin 32 → Fin 128 → EReal) (X D C : Fin 32 → EReal) (H : Fin 128 → EReal) (skip : EReal) (l : Fin 32) : EReal :=
  ∑ s, (∑ n, Cm l n * Bm s n) * Ideal.exp (if s ≤ l then C l - C s else Ideal.ofBits .f32 0xFF800000#32) * (X s * D s)
    + (∑ n, Cm l n * H n) * Ideal.exp (C l) + skip * X l

/-- The comparison of two step numbers, as a bit. -/
theorem causal_bit : ∀ l s : Fin 32,
    IntOp.cmpi CmpIPredicate.sge (BitVec.ofNat 32 l.val) (BitVec.ofNat 32 s.val) = if s ≤ l then 1#1 else 0#1 := by
  decide +kernel

/-- A choice by that bit is a choice by the order of the steps. -/
theorem select_causal {α : Type} (l s : Fin 32) (a b : α) :
    Scalar.select (IntOp.cmpi CmpIPredicate.sge (BitVec.ofNat 32 l.val) (BitVec.ofNat 32 s.val)) a b = if s ≤ l then a else b := by
  rw [causal_bit]
  by_cases h : s ≤ l <;> simp [h, Scalar.select]

/-- A product with that bit as a number is a choice between the other factor and zero. -/
theorem mask_mul (l s : Fin 32) (a : EReal) :
    (FloatOps.sitofp (F := Ideal) .f32 (BitVec.setWidth 32 (IntOp.cmpi CmpIPredicate.sge (BitVec.ofNat 32 l.val) (BitVec.ofNat 32 s.val))) : EReal) * a
      = if s ≤ l then a else 0 := by
  rw [causal_bit]
  by_cases h : s ≤ l
  · simp only [h, if_true]
    show ((((BitVec.setWidth 32 1#1).toInt : ℝ)) : EReal) * a = a
    norm_num
  · simp only [h, if_false]
    show ((((BitVec.setWidth 32 0#1).toInt : ℝ)) : EReal) * a = 0
    norm_num

end Cert.SsdMath

end
-- ==== Proof.SsdRef.lean ====
module

public import proofs.«01_k».proof.Defs
public import proofs.«01_k».proof.Proof.Gen.Reference6Ideal.Read
public import proofs.«01_k».proof.Proof.SsdMath
public import Idealize.ShloMosaic.Lib.Pipeline.ValueKit
public import Idealize.ShloMosaic.Lib.Pointwise

@[expose] public section

set_option maxRecDepth 16384

noncomputable section

namespace Cert.SsdRef

open Idealize.ShloMosaic Idealize.ShloMosaic.TcCoe Idealize.SL.Sem
open Cert.Reference6Ideal
open Cert.Reference6Ideal.Read
open Cert.SsdMath

variable (x0 : (⟨S16x32x2048, .f32⟩ : BufTy).Contents (Elt Ideal)) (x1 : (⟨S16x32x1024, .f32⟩ : BufTy).Contents (Elt Ideal)) (x2 : (⟨S16x32x128, .f32⟩ : BufTy).Contents (Elt Ideal))
  (x3 : (⟨S16x3x2048, .f32⟩ : BufTy).Contents (Elt Ideal)) (x4 : (⟨S16x16x64x128, .f32⟩ : BufTy).Contents (Elt Ideal)) (x5 : (⟨S4x2048, .f32⟩ : BufTy).Contents (Elt Ideal))
  (x6 : (⟨S2048, .f32⟩ : BufTy).Contents (Elt Ideal)) (x7 x8 x9 : (⟨S16, .f32⟩ : BufTy).Contents (Elt Ideal)) (x10 : (⟨S1024, .f32⟩ : BufTy).Contents (Elt Ideal))

/-- The head of a group: head `h` is number `h % 4` of group `h / 4`. -/
abbrev headIx (b : Fin 16) (l : Fin 32) (h : Fin 16) : S16x32x4x4.Idx :=
  ix4 b l ⟨h.val / 4, by omega⟩ ⟨h.val % 4, by omega⟩

/-- The reference's step size is the softplus of the raw one and its bias. -/
theorem dt_ref (b : Fin 16) (l : Fin 32) (h : Fin 16) :
    val_main_v43 (F := Ideal) x2 x7 (ix3 b l h) = softplus (x2 (ix3 b l ⟨h.val, by omega⟩) + x7 (ix1 h)) := by
  unfold softplus
  pointwise [val_main_v43, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst, val_main_v42, val_main_v41, val_main_v40, val_main_v39]
  rw [if_neg (not_not.mpr rfl)]

/-- The reference's running sum over the steps not after `l`. -/
theorem ac_ref (b : Fin 16) (l : Fin 32) (h : Fin 16) :
    val_main_v60 (F := Ideal) x2 x7 x8 (headIx b l h)
      = ∑ s : Fin 32, if s ≤ l then val_main_v43 (F := Ideal) x2 x7 (ix3 b s h) * -Ideal.exp (x8 (ix1 h)) else 0 := by
  unfold headIx
  pointwise [val_main_v60, val_main_v59, val_main_call2_v3, val_main_call2_v2, val_main_call2_v1, val_main_call2_v0, val_main_cst, val_main_cst_0, val_main_v58, val_main_v57, val_main_v56, val_main_v55, val_main_v54, val_main_v53, val_main_v52, val_main_v51, val_main_v50, val_main_v49, val_main_v48, val_main_v47, val_main_v46, val_main_v45, val_main_v44]
  refine Finset.sum_congr rfl fun s _ => ?_
  rw [select_causal]
  by_cases hs : s ≤ l
  · rw [if_pos hs, if_pos hs]
  · rw [if_neg hs, if_neg hs]
    simp only [id_eq]
    pointwise

/-- The reference's last state. -/
theorem state_ref (b h : Fin 16) (n : Fin 128) (p : Fin 64) :
    val_main_v124 (F := Ideal) x0 x2 x3 x4 x5 x6 x7 x8 (ix4 b h n p)
      = stateAt (fun l => val_main_v31 (F := Ideal) x0 x3 x5 x6 (ix3 b l ⟨1024 + h.val / 4 * 128 + n.val, by omega⟩))
          (fun l => val_main_v31 (F := Ideal) x0 x3 x5 x6 (ix3 b l ⟨h.val * 64 + p.val, by omega⟩))
          (fun l => val_main_v43 (F := Ideal) x2 x7 (ix3 b l h)) (fun l => val_main_v60 (F := Ideal) x2 x7 x8 (headIx b l h)) (x4 (ix4 b h p n)) := by
  unfold stateAt headIx
  pointwise [val_main_v124, val_main_v123]
  pointwise [val_main_v99, val_main_v98, val_main_v97, val_main_v96, val_main_v95, val_main_v94, val_main_v93, val_main_v92, val_main_v91, val_main_v90, val_main_v89, val_main_v88, val_main_v87, val_main_v86, val_main_v85, val_main_v78, val_main_v63, val_main_v62, val_main_v61, val_main_v44, val_main_v37, val_main_v36, val_main_v34, val_main_v33]
  refine congrArg₂ (· + ·) ?_ (Finset.sum_congr rfl fun l _ => (mul_comm _ _).trans ?_)
  · rfl
  · blk_point []

/-- The reference's output of a head before the gate. -/
theorem out_ref (b : Fin 16) (l : Fin 32) (h : Fin 16) (p : Fin 64) :
    val_main_v106 (F := Ideal) x0 x2 x3 x4 x5 x6 x7 x8 x9 (ix3 b l ⟨h.val * 64 + p.val, by omega⟩)
      = outAt (fun l n => val_main_v31 (F := Ideal) x0 x3 x5 x6 (ix3 b l ⟨1024 + h.val / 4 * 128 + n.val, by omega⟩))
          (fun l n => val_main_v31 (F := Ideal) x0 x3 x5 x6 (ix3 b l ⟨1536 + h.val / 4 * 128 + n.val, by omega⟩))
          (fun l => val_main_v31 (F := Ideal) x0 x3 x5 x6 (ix3 b l ⟨h.val * 64 + p.val, by omega⟩))
          (fun l => val_main_v43 (F := Ideal) x2 x7 (ix3 b l h)) (fun l => val_main_v60 (F := Ideal) x2 x7 x8 (headIx b l h)) (fun n => x4 (ix4 b h p n))
          (x9 (ix1 h)) l := by
  have e : val_main_v106 (F := Ideal) x0 x2 x3 x4 x5 x6 x7 x8 x9 (ix3 b l ⟨h.val * 64 + p.val, by omega⟩)
      = val_main_v105 (F := Ideal) x0 x2 x3 x4 x5 x6 x7 x8 x9 (ix5 b l ⟨h.val / 4, by omega⟩ ⟨h.val % 4, by omega⟩ p) := by
    pointwise [val_main_v106]
    blk_point []
  rw [e]
  unfold outAt headIx
  pointwise [val_main_v105, val_main_v104, val_main_v103, val_main_v102, val_main_v101, val_main_v100, val_main_v84, val_main_v83, val_main_v82, val_main_v81, val_main_v80, val_main_v79, val_main_v78, val_main_v77, val_main_v76, val_main_v75, val_main_v74, val_main_v73, val_main_v72, val_main_v71, val_main_v70, val_main_v69, val_main_call3_v2, val_main_call3_v1, val_main_call3_v0, val_main_cst_1, val_main_v68, val_main_v67, val_main_v66, val_main_v65, val_main_v64,val_main_v57, val_main_v56, val_main_v55, val_main_v54, val_main_v53, val_main_v52, val_main_v51, val_main_v63, val_main_v62, val_main_v61, val_main_v44, val_main_v38, val_main_v37, val_main_v36, val_main_v35, val_main_v34, val_main_v33]
  simp only [select_causal]
  refine congrArg₂ (· + ·) (congrArg₂ (· + ·) (Finset.sum_congr rfl fun s _ => (mul_comm _ _).trans (congrArg₂ (· * ·) (congrArg₂ (· * ·) (Finset.sum_congr rfl fun n _ => (mul_comm _ _).trans ?_) ?_) ?_)) (congrArg₂ (· * ·) (Finset.sum_congr rfl fun n _ => (mul_comm _ _).trans ?_) ?_)) ?_
  case refine_2 =>
    by_cases hs : s ≤ l
    · rw [if_pos hs, if_pos hs]
    · rw [if_neg hs, if_neg hs, id_eq]
      rfl
  all_goals blk_point []

end Cert.SsdRef

end
-- ==== Proof.SsdRows.lean ====
module

public import proofs.«01_k».proof.Defs
public import proofs.«01_k».proof.Proof.SsdMath
public import proofs.«01_k».proof.Proof.SsdRef
public import proofs.«01_k».proof.Proof.Gen.Kernel6Ideal.Value
public import proofs.«01_k».proof.Proof.Gen.Reference6Ideal.Read
public import Idealize.ShloMosaic.Lib.Pipeline.ValueKit
public import Idealize.ShloMosaic.Lib.Pointwise

/-! What the kernel reads at a grid point, and what it forms of it before the heads part, against the reference: the rows of the
    convolution, the step sizes, the running sums of the decays, the state before. -/

@[expose] public section

set_option maxRecDepth 16384

noncomputable section

namespace Cert.Ssd

open Idealize.ShloMosaic Idealize.ShloMosaic.TcCoe Idealize.SL.Sem
open Idealize.ShloMosaic.Pipeline (Dat)
open Cert.Kernel6Ideal Cert.Kernel6Ideal.Gen
open Cert.Reference6Ideal.Read
open Cert.SsdMath

variable (m : (ℓ : Loc nD τ sig) → Buf (Elt Ideal) ℓ)

/-- Which block each window shows at a grid point: the samples one by one. -/
theorem idx : ∀ t : Fin cfg0.N,
    win0_0.index t = ![0] ∧
    win0_1.index t = ![(grid0.coords t 0).val, 0, 0] ∧
    win0_2.index t = ![(grid0.coords t 0).val, 0, 0] ∧
    win0_3.index t = ![(grid0.coords t 0).val, 0, 0] ∧
    win0_4.index t = ![(grid0.coords t 0).val, 0, 0] ∧
    win0_5.index t = ![(grid0.coords t 0).val, 0, 0, 0] ∧
    win0_6.index t = ![0, 0] ∧ win0_7.index t = ![0, 0] ∧ win0_8.index t = ![0, 0] ∧ win0_9.index t = ![0, 0] ∧ win0_10.index t = ![0, 0] ∧
    win0_11.index t = ![(grid0.coords t 0).val, 0, 0] ∧
    win0_12.index t = ![(grid0.coords t 0).val, 0, 0] ∧
    win0_13.index t = ![(grid0.coords t 0).val, 0, 0, 0] :=
  (by decide +kernel : ∀ t : Fin grid0.N, _)

/-- There are 16 samples. -/
theorem batch_lt (t : Fin cfg0.N) : (grid0.coords t 0).val < 16 := (grid0.coords t 0).isLt

/-- The sample of a grid point. -/
abbrev bt (t : Fin cfg0.N) : Fin 16 := ⟨(grid0.coords t 0).val, batch_lt t⟩

/-! The kernel's arguments. -/

/-- The rows that the convolution takes in. -/
abbrev X0 (c : Dev nD) : (⟨S16x32x2048, .f32⟩ : BufTy).Contents (Elt Ideal) := m ((c : Thread nD τ).loc main_arg0)
/-- The gate. -/
abbrev X1 (c : Dev nD) : (⟨S16x32x1024, .f32⟩ : BufTy).Contents (Elt Ideal) := m ((c : Thread nD τ).loc main_arg1)
/-- The raw step sizes. -/
abbrev X2 (c : Dev nD) : (⟨S16x32x128, .f32⟩ : BufTy).Contents (Elt Ideal) := m ((c : Thread nD τ).loc main_arg2)
/-- The three rows before the first. -/
abbrev X3 (c : Dev nD) : (⟨S16x3x2048, .f32⟩ : BufTy).Contents (Elt Ideal) := m ((c : Thread nD τ).loc main_arg3)
/-- The state before the first step. -/
abbrev X4 (c : Dev nD) : (⟨S16x16x64x128, .f32⟩ : BufTy).Contents (Elt Ideal) := m ((c : Thread nD τ).loc main_arg4)
/-- The convolution's weights. -/
abbrev X5 (c : Dev nD) : (⟨S4x2048, .f32⟩ : BufTy).Contents (Elt Ideal) := m ((c : Thread nD τ).loc main_arg5)
/-- The convolution's bias. -/
abbrev X6 (c : Dev nD) : (⟨S2048, .f32⟩ : BufTy).Contents (Elt Ideal) := m ((c : Thread nD τ).loc main_arg6)
/-- The bias of the step sizes. -/
abbrev X7 (c : Dev nD) : (⟨S16, .f32⟩ : BufTy).Contents (Elt Ideal) := m ((c : Thread nD τ).loc main_arg7)
/-- The logarithms of the decay rates. -/
abbrev X8 (c : Dev nD) : (⟨S16, .f32⟩ : BufTy).Contents (Elt Ideal) := m ((c : Thread nD τ).loc main_arg8)
/-- The skip weights. -/
abbrev X9 (c : Dev nD) : (⟨S16, .f32⟩ : BufTy).Contents (Elt Ideal) := m ((c : Thread nD τ).loc main_arg9)
/-- The gains of the norm. -/
abbrev X10 (c : Dev nD) : (⟨S1024, .f32⟩ : BufTy).Contents (Elt Ideal) := m ((c : Thread nD τ).loc main_arg10)

/-! What the host prepares. -/

/-- The three rows before the first, below five rows of zeros. -/
theorem entry_tail (c : Dev nD) : V m c main_v0 = pad S16x8x2048 ![0, 5, 0] ![0, 0, 0] ![0, 0, 0] (X3 m c)
    (sitofp (F := Ideal) .f32 (constantI S_ 32 0#32)) pads_S16x3x2048_S16x8x2048_000_500_000 h_S_ := rfl
/-- The state with its last two coordinates exchanged. -/
theorem entry_state (c : Dev nD) : V m c main_v1 = transpose S16x16x128x64 [0, 1, 3, 2] (X4 m c) transposes_S16x16x64x128_S16x16x128x64_0_1_3_2 := rfl
/-- The convolution's bias as a row. -/
theorem entry_bias (c : Dev nD) : V m c main_v2 = shapeCast S1x2048 (X6 m c) shapeCasts_S2048_S1x2048 := rfl
/-- The bias of the step sizes in the first 16 of 128 lanes. -/
theorem entry_dtb (c : Dev nD) : V m c main_v4 = pad S1x128 ![0, 0] ![0, 112] ![0, 0] (shapeCast S1x16 (X7 m c) shapeCasts_S16_S1x16)
    (sitofp (F := Ideal) .f32 (constantI S_ 32 0#32)) pads_S1x16_S1x128_000_01120 h_S_ := rfl
/-- The logarithms of the decay rates in the first 16 of 128 lanes. -/
theorem entry_alog (c : Dev nD) : V m c main_v6 = pad S1x128 ![0, 0] ![0, 112] ![0, 0] (shapeCast S1x16 (X8 m c) shapeCasts_S16_S1x16)
    (sitofp (F := Ideal) .f32 (constantI S_ 32 0#32)) pads_S1x16_S1x128_000_01120 h_S_ := rfl
/-- The gains of the norm as a row. -/
theorem entry_gain (c : Dev nD) : V m c main_v7 = shapeCast S1x1024 (X10 m c) shapeCasts_S1024_S1x1024 := rfl

/-! What a grid point reads. -/

/-- The sample's rows. -/
theorem rows_eq (c : Dev nD) (t : Fin cfg0.N) (l : Fin 32) (ch : Fin 2048) : iblk m c 1 t (ix3 0 l ch) = X0 m c (ix3 (bt t) l ch) := by
  have e : ((cfg0.win 1).blk t).view.emb (ix3 0 l ch) = (ix3 (bt t) l ch : S16x32x2048.Idx) := by
    blk_ext [idx t]
  blk_simp [iblk]
  rw [e]
  rfl

/-- The sample's gate. -/
theorem gate_eq (c : Dev nD) (t : Fin cfg0.N) (l : Fin 32) (ch : Fin 1024) : iblk m c 2 t (ix3 0 l ch) = X1 m c (ix3 (bt t) l ch) := by
  have e : ((cfg0.win 2).blk t).view.emb (ix3 0 l ch) = (ix3 (bt t) l ch : S16x32x1024.Idx) := by
    blk_ext [idx t]
  blk_simp [iblk]
  rw [e]
  rfl

/-- The sample's raw step sizes. -/
theorem raw_eq (c : Dev nD) (t : Fin cfg0.N) (l : Fin 32) (h : Fin 128) : iblk m c 3 t (ix3 0 l h) = X2 m c (ix3 (bt t) l h) := by
  have e : ((cfg0.win 3).blk t).view.emb (ix3 0 l h) = (ix3 (bt t) l h : S16x32x128.Idx) := by
    blk_ext [idx t]
  blk_simp [iblk]
  rw [e]
  rfl

/-- The last three of the eight rows before the first. -/
theorem tail_eq (c : Dev nD) (t : Fin cfg0.N) (r : Fin 3) (ch : Fin 2048) :
    iblk m c 4 t (ix3 0 ⟨5 + r.val, by omega⟩ ch) = X3 m c (ix3 (bt t) r ch) := by
  have e : ((cfg0.win 4).blk t).view.emb (ix3 0 ⟨5 + r.val, by omega⟩ ch) = (ix3 (bt t) ⟨5 + r.val, by omega⟩ ch : S16x8x2048.Idx) := by
    blk_ext [idx t]
  blk_simp [iblk]
  rw [entry_tail, e]
  pointwise
  blk_point []

/-- The sample's state before the first step. -/
theorem state0_eq (c : Dev nD) (t : Fin cfg0.N) (h : Fin 16) (n : Fin 128) (p : Fin 64) :
    iblk m c 5 t (ix4 0 h n p) = X4 m c (ix4 (bt t) h p n) := by
  have e : ((cfg0.win 5).blk t).view.emb (ix4 0 h n p) = (ix4 (bt t) h n p : S16x16x128x64.Idx) := by
    blk_ext [idx t]
  blk_simp [iblk]
  rw [entry_state, e]
  pointwise
  rfl

/-- The convolution's weights. -/
theorem weight_eq (c : Dev nD) (t : Fin cfg0.N) (i : Fin 4) (ch : Fin 2048) : iblk m c 6 t (ix2 i ch) = X5 m c (ix2 i ch) := by
  have e : ((cfg0.win 6).blk t).view.emb (ix2 i ch) = (ix2 i ch : S4x2048.Idx) := by
    blk_ext [idx t]
  blk_simp [iblk]
  rw [e]
  rfl

/-- The convolution's bias. -/
theorem bias_eq (c : Dev nD) (t : Fin cfg0.N) (ch : Fin 2048) : iblk m c 7 t (ix2 0 ch) = X6 m c (ix1 ch) := by
  have e : ((cfg0.win 7).blk t).view.emb (ix2 0 ch) = (ix2 0 ch : S1x2048.Idx) := by
    blk_ext [idx t]
  blk_simp [iblk]
  rw [entry_bias, e]
  pointwise

/-- The bias of the step sizes. -/
theorem dtb_eq (c : Dev nD) (t : Fin cfg0.N) (h : Fin 16) : iblk m c 8 t (ix2 0 ⟨h.val, by omega⟩) = X7 m c (ix1 h) := by
  have e : ((cfg0.win 8).blk t).view.emb (ix2 0 ⟨h.val, by omega⟩) = (ix2 0 ⟨h.val, by omega⟩ : S1x128.Idx) := by
    blk_ext [idx t]
  blk_simp [iblk]
  rw [entry_dtb, e]
  pointwise

/-- The logarithms of the decay rates. -/
theorem alog_eq (c : Dev nD) (t : Fin cfg0.N) (h : Fin 16) : iblk m c 9 t (ix2 0 ⟨h.val, by omega⟩) = X8 m c (ix1 h) := by
  have e : ((cfg0.win 9).blk t).view.emb (ix2 0 ⟨h.val, by omega⟩) = (ix2 0 ⟨h.val, by omega⟩ : S1x128.Idx) := by
    blk_ext [idx t]
  blk_simp [iblk]
  rw [entry_alog, e]
  pointwise

/-- The gains of the norm. -/
theorem gain_eq (c : Dev nD) (t : Fin cfg0.N) (ch : Fin 1024) : iblk m c 10 t (ix2 0 ch) = X10 m c (ix1 ch) := by
  have e : ((cfg0.win 10).blk t).view.emb (ix2 0 ch) = (ix2 0 ch : S1x1024.Idx) := by
    blk_ext [idx t]
  blk_simp [iblk]
  rw [entry_gain, e]
  pointwise

/-! What it forms of them. -/

/-- The kernel's step size is the reference's. -/
theorem dt_eq (c : Dev nD) (t : Fin cfg0.N) (l : Fin 32) (h : Fin 16) :
    k0_pay13 (iblk m c 3 t) (iblk m c 8 t) (ix2 l ⟨h.val, by omega⟩) = val_main_v43 (F := Ideal) (X2 m c) (X7 m c) (ix3 (bt t) l h) := by
  rw [SsdRef.dt_ref]
  unfold softplus
  pointwise [k0_pay13]
  simp only [raw_eq, dtb_eq, zero_sub]

/-- The kernel's running sum of the decays' logarithms is the reference's. -/
theorem ac_eq (c : Dev nD) (t : Fin cfg0.N) (l : Fin 32) (h : Fin 16) :
    k0_pay15 (iblk m c 3 t) (iblk m c 8 t) (iblk m c 9 t) (ix2 l ⟨h.val, by omega⟩)
      = val_main_v60 (F := Ideal) (X2 m c) (X7 m c) (X8 m c) (SsdRef.headIx (bt t) l h) := by
  rw [SsdRef.ac_ref]
  pointwise [k0_pay15, k0_pay14]
  refine Finset.sum_congr rfl fun s _ => ?_
  rw [mask_mul, dt_eq, alog_eq, zero_sub]

/-- The kernel's state before the first step is the argument with its last two coordinates exchanged. -/
theorem h0_eq (c : Dev nD) (t : Fin cfg0.N) (h : Fin 16) (n : Fin 128) (p : Fin 64) :
    k0_pay4 (iblk m c 5 t) (ix3 h n p) = X4 m c (ix4 (bt t) h p n) := by
  pointwise [k0_pay4]
  rw [state0_eq]

/-- The rows the kernel lays out, from the sixth on, are the three rows before the first and the sample's. -/
theorem row_low (c : Dev nD) (t : Fin cfg0.N) (r : Fin 3) (ch : Fin 2048) :
    k0_pay3 (iblk m c 4 t) (ix2 ⟨5 + r.val, by omega⟩ ch) = val_main_v0 (F := Ideal) (X0 m c) (X3 m c) (ix3 (bt t) ⟨r.val, by omega⟩ ch) := by
  pointwise [k0_pay3, val_main_v0]
  rw [tail_eq]
  rfl

/-- The sample's rows follow them. -/
theorem row_high (c : Dev nD) (t : Fin cfg0.N) (r : Fin 32) (ch : Fin 2048) :
    k0_pay5 (iblk m c 1 t) (ix2 r ch) = val_main_v0 (F := Ideal) (X0 m c) (X3 m c) (ix3 (bt t) ⟨3 + r.val, by omega⟩ ch) := by
  pointwise [k0_pay5, val_main_v0]
  rw [rows_eq]
  rfl

/-- The convolution of four shifted rows, activated, is the reference's. -/
theorem act_of (c : Dev nD) (t : Fin cfg0.N) (b w0 w1 w2 w3 : FVec Ideal S1x2048 .f32) (e0 e1 e2 e3 : FVec Ideal S32x2048 .f32) (l : Fin 32) (ch : Fin 2048)
    (hb : b (ix2 0 ch) = X6 m c (ix1 ch)) (hw0 : w0 (ix2 0 ch) = X5 m c (ix2 0 ch)) (hw1 : w1 (ix2 0 ch) = X5 m c (ix2 1 ch))
    (hw2 : w2 (ix2 0 ch) = X5 m c (ix2 2 ch)) (hw3 : w3 (ix2 0 ch) = X5 m c (ix2 3 ch))
    (he0 : e0 (ix2 l ch) = val_main_v0 (F := Ideal) (X0 m c) (X3 m c) (ix3 (bt t) ⟨l.val, by omega⟩ ch))
    (he1 : e1 (ix2 l ch) = val_main_v0 (F := Ideal) (X0 m c) (X3 m c) (ix3 (bt t) ⟨1 + l.val, by omega⟩ ch))
    (he2 : e2 (ix2 l ch) = val_main_v0 (F := Ideal) (X0 m c) (X3 m c) (ix3 (bt t) ⟨2 + l.val, by omega⟩ ch))
    (he3 : e3 (ix2 l ch) = val_main_v0 (F := Ideal) (X0 m c) (X3 m c) (ix3 (bt t) ⟨3 + l.val, by omega⟩ ch)) :
    k0_pay7 (F := Ideal) (k0_pay6 b e0 w0 e1 w1 e2 w2 e3 w3) (ix2 l ch)
      = val_main_v31 (F := Ideal) (X0 m c) (X3 m c) (X5 m c) (X6 m c) (ix3 (bt t) l ch) := by
  generalize bt t = B at *
  pointwise [k0_pay7, k0_pay6, val_main_v31, val_main_call0_v5, val_main_call0_v4, val_main_call0_v3, val_main_call0_v2, val_main_call0_v1, val_main_call0_v0, val_main_call0_cst, val_main_call0_cst_0, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1]
  rw [hb, hw0, hw1, hw2, hw3, he0, he1, he2, he3]
  simp only [Ideal.logistic]

end Cert.Ssd

end
-- ==== Proof.SsdLaid.lean ====
module

public import proofs.«01_k».proof.Defs
public import proofs.«01_k».proof.Proof.SsdRows
public import proofs.«01_k».proof.Proof.Gen.Kernel6Ideal.Value
public import proofs.«01_k».proof.Proof.Gen.Reference6Ideal.Read
public import Idealize.ShloMosaic.Lib.Pipeline.ValueKit
public import Idealize.ShloMosaic.Lib.Pipeline.ReadBack
public import Idealize.ShloMosaic.Lib.Pointwise

/-! The rows the kernel lays out in its scratch memory: eight before the first, of which the last three count, and the sample's. -/

@[expose] public section

set_option maxRecDepth 16384

noncomputable section

namespace Cert.Ssd

open Idealize.ShloMosaic Idealize.ShloMosaic.TcCoe Idealize.SL.Sem
open Idealize.ShloMosaic.Pipeline (Dat)
open Cert.Kernel6Ideal Cert.Kernel6Ideal.Gen
open Cert.Reference6Ideal.Read
open Cert.SsdMath

variable (m : (ℓ : Loc nD τ sig) → Buf (Elt Ideal) ℓ)

/-- Stores of which the first `k` are blocks of `G`, whatever the earlier ones are, leave `G` wherever one of the first `k` covers. -/
theorem canon_first {s : Shape} {e : EltTy} (G : s.Idx → Elt Ideal e) (L : List (View.Piece (Elt Ideal) s e)) (k : ℕ) (y : s.Idx)
    (hp : View.PiecesOf G (L.take k)) (hc : ∃ p ∈ L.take k, y ∈ p.1.set) : View.canon L y = G y := by
  have e := View.canon_append_of_piecesOf G (L.drop k) (L.take k) hp y hc
  rwa [List.take_append_drop] at e

/-- The forty rows the kernel lays out: eight before the first, then the sample's. -/
def laid (c : Dev nD) (t : Fin cfg0.N) (y : S40x2048.Idx) : EReal :=
  have h0 : (y 0).val < 40 := (y 0).isLt
  have h1 : (y 1).val < 2048 := (y 1).isLt
  if h : (y 0).val < 8 then k0_pay3 (iblk m c 4 t) (ix2 ⟨(y 0).val, h⟩ ⟨(y 1).val, h1⟩)
  else k0_pay5 (iblk m c 1 t) (ix2 ⟨(y 0).val - 8, by omega⟩ ⟨(y 1).val, h1⟩)

/-- From the sixth on they are the three rows before the first and the sample's. -/
theorem laid_eq (c : Dev nD) (t : Fin cfg0.N) (i : Fin 35) (ch : Fin 2048) :
    laid m c t (ix2 ⟨5 + i.val, by omega⟩ ch) = val_main_v0 (F := Ideal) (X0 m c) (X3 m c) (ix3 (bt t) i ch) := by
  by_cases h : i.val < 3
  · have e : laid m c t (ix2 ⟨5 + i.val, by omega⟩ ch) = k0_pay3 (iblk m c 4 t) (ix2 ⟨5 + (⟨i.val, h⟩ : Fin 3).val, by omega⟩ ch) :=
      dif_pos (show 5 + i.val < 8 by omega)
    exact e.trans (row_low m c t ⟨i.val, h⟩ ch)
  · have e : laid m c t (ix2 ⟨5 + i.val, by omega⟩ ch) = k0_pay5 (iblk m c 1 t) (ix2 ⟨5 + i.val - 8, by omega⟩ ch) :=
      dif_neg (show ¬ 5 + i.val < 8 by omega)
    refine (e.trans (row_high m c t _ ch)).trans (congrArg (fun k => val_main_v0 (F := Ideal) (X0 m c) (X3 m c) (ix3 (bt t) k ch)) (Fin.ext ?_))
    show 3 + (5 + i.val - 8) = i.val
    omega

/-- A load from the rows laid out, whatever its first row. -/
theorem laid_load (c : Dev nD) (t : Fin cfg0.N) (o k : ℕ) (inb : ∀ a, (![o, 0] : Fin 2 → ℕ) a + (![k, 2048] : Fin 2 → ℕ) a ≤ S40x2048.size a)
    (hk : o + k ≤ 40) (l : Fin k) (ch : Fin 2048) :
    (View.whole cc0_scratch0).readCov (Val := Elt Ideal)
        [⟨Rect.unit (s := S40x2048) ![8, 0] ![32, 2048] inb_S40x2048_S32x2048_8_0, k0_pay5 (F := Ideal) (iblk m c 1 t)⟩,
          ⟨Rect.unit (s := S40x2048) ![0, 0] ![8, 2048] inb_S40x2048_S8x2048_0_0, k0_pay3 (F := Ideal) (iblk m c 4 t)⟩]
        (Rect.unit (s := S40x2048) ![o, 0] ![k, 2048] inb).toLoadRect (ix2 l ch) = laid m c t (ix2 ⟨o + l.val, by omega⟩ ch) := by
  rw [View.readCov_eq_canon']
  have e : (Rect.unit (s := S40x2048) ![o, 0] ![k, 2048] inb).toLoadRect.idx (ix2 l ch) = (ix2 ⟨o + l.val, by omega⟩ ch : S40x2048.Idx) := by
    show (Rect.unit (s := S40x2048) ![o, 0] ![k, 2048] inb).emb (ix2 l ch) = (ix2 ⟨o + l.val, by omega⟩ ch : S40x2048.Idx)
    blk_ext
  refine (congrArg (View.canon _) e).trans ?_
  refine canon_first (s := S40x2048) (e := .f32) (laid m c t) _ 2 _ ?_ ?_
  · simp only [List.take_succ_cons, List.take_zero, View.PiecesOf, and_true]
    refine ⟨?_, ?_⟩
    · intro x
      obtain ⟨r, q, rfl⟩ : ∃ (r : Fin 32) (q : Fin 2048), x = ix2 r q := ⟨x 0, x 1, eq_ix2 x⟩
      have e8 : (Rect.unit (s := S40x2048) ![8, 0] ![32, 2048] inb_S40x2048_S32x2048_8_0).emb (ix2 r q) = (ix2 ⟨8 + r.val, by omega⟩ q : S40x2048.Idx) := by
        blk_ext
      refine Eq.trans ?_ (congrArg (laid m c t) e8).symm
      refine Eq.trans ?_ (dif_neg (show ¬ 8 + r.val < 8 by omega)).symm
      refine congrArg (fun a => k0_pay5 (F := Ideal) (iblk m c 1 t) (ix2 a q)) (Fin.ext ?_)
      show r.val = 8 + r.val - 8
      omega
    · intro x
      obtain ⟨r, q, rfl⟩ : ∃ (r : Fin 8) (q : Fin 2048), x = ix2 r q := ⟨x 0, x 1, eq_ix2 x⟩
      have e8 : (Rect.unit (s := S40x2048) ![0, 0] ![8, 2048] inb_S40x2048_S8x2048_0_0).emb (ix2 r q) = (ix2 ⟨r.val, by omega⟩ q : S40x2048.Idx) := by
        blk_ext
      refine Eq.trans ?_ (congrArg (laid m c t) e8).symm
      have e3 : laid m c t (ix2 ⟨r.val, by omega⟩ q) = k0_pay3 (F := Ideal) (iblk m c 4 t) (ix2 r q) := dif_pos (show r.val < 8 from r.isLt)
      exact e3.symm
  · simp only [List.take_succ_cons, List.take_zero, List.mem_cons, exists_eq_or_imp, List.not_mem_nil, false_and, exists_false, or_false, Rect.mem_set_unit]
    by_cases h : o + l.val < 8
    · refine Or.inr ⟨_, rfl, ?_⟩
      rw [Rect.mem_set_unit]
      intro a
      match a with
      | ⟨0, _⟩ => exact ⟨Nat.zero_le _, by show o + l.val < 0 + 8; omega⟩
      | ⟨1, _⟩ => exact ⟨Nat.zero_le _, by show ch.val < 0 + 2048; omega⟩
    · left
      intro a
      match a with
      | ⟨0, _⟩ => exact ⟨by show 8 ≤ o + l.val; omega, by show o + l.val < 8 + 32; omega⟩
      | ⟨1, _⟩ => exact ⟨Nat.zero_le _, by show ch.val < 0 + 2048; omega⟩

/-- A row of the convolution's weights. -/
theorem weight_load (c : Dev nD) (t : Fin cfg0.N) (i : ℕ) (inb : ∀ a, (![i, 0] : Fin 2 → ℕ) a + (![1, 2048] : Fin 2 → ℕ) a ≤ S4x2048.size a)
    (hi : i < 4) (ch : Fin 2048) :
    View.ld (Val := Elt Ideal) (e' := .f32) (iblk m c 6 t) (Rect.unit (s := S4x2048) ![i, 0] ![1, 2048] inb) (ix2 0 ch) = X5 m c (ix2 ⟨i, hi⟩ ch) := by
  have e : (Rect.unit (s := S4x2048) ![i, 0] ![1, 2048] inb).emb (ix2 0 ch) = (ix2 ⟨i, hi⟩ ch : S4x2048.Idx) := by
    blk_ext
  exact (congrArg (iblk m c 6 t) e).trans (weight_eq m c t ⟨i, hi⟩ ch)

/-- The same at a shifted row. -/
theorem laid_at (c : Dev nD) (t : Fin cfg0.N) (i : Fin 4) (l : Fin 32) (ch : Fin 2048) :
    laid m c t (ix2 ⟨5 + i.val + l.val, by omega⟩ ch) = val_main_v0 (F := Ideal) (X0 m c) (X3 m c) (ix3 (bt t) ⟨i.val + l.val, by omega⟩ ch) := by
  refine Eq.trans (congrArg (fun k => laid m c t (ix2 k ch)) (Fin.ext ?_)) (laid_eq m c t ⟨i.val + l.val, by omega⟩ ch)
  show 5 + i.val + l.val = 5 + (i.val + l.val)
  omega

end Cert.Ssd

end
-- ==== Proof.SsdState.lean ====
module

public import proofs.«01_k».proof.Defs
public import proofs.«01_k».proof.Proof.SsdLaid
public import proofs.«01_k».proof.Proof.Gen.Kernel6Ideal.Value
public import proofs.«01_k».proof.Proof.Gen.Reference6Ideal.Read
public import Idealize.ShloMosaic.Lib.Pipeline.ValueKit
public import Idealize.ShloMosaic.Lib.Pipeline.ReadBack
public import Idealize.ShloMosaic.Lib.Pointwise

/-! The state after the last step, which the kernel updates in place head by head. -/

@[expose] public section

set_option maxRecDepth 16384

noncomputable section

namespace Cert.Ssd

open Idealize.ShloMosaic Idealize.ShloMosaic.TcCoe Idealize.SL.Sem
open Idealize.ShloMosaic.Pipeline (Dat)
open Cert.Kernel6Ideal Cert.Kernel6Ideal.Gen
open Cert.Reference6Ideal.Read
open Cert.SsdMath

variable (m : (ℓ : Loc nD τ sig) → Buf (Elt Ideal) ℓ)

/-- An entry lies in the slab of head `k` when `k` is its head. -/
theorem mem_head (k : ℕ) (inb : ∀ a, (![k, 0, 0] : Fin 3 → ℕ) a + (![1, 128, 64] : Fin 3 → ℕ) a ≤ S16x128x64.size a) (h : Fin 16) (n : Fin 128) (p : Fin 64) :
    (ix3 h n p : S16x128x64.Idx) ∈ (Rect.unit (s := S16x128x64) ![k, 0, 0] ![1, 128, 64] inb).set ↔ h.val = k := by
  rw [Rect.mem_set_unit]
  constructor
  · intro H
    have h0 : k ≤ h.val ∧ h.val < k + 1 := H 0
    omega
  · intro e a
    match a with
    | ⟨0, _⟩ => exact ⟨e.ge, by show h.val < k + 1; omega⟩
    | ⟨1, _⟩ => exact ⟨Nat.zero_le _, by show n.val < 0 + 128; omega⟩
    | ⟨2, _⟩ => exact ⟨Nat.zero_le _, by show p.val < 0 + 64; omega⟩

/-- The slab of head `k` holds the entries of head `k`. -/
theorem emb_head (k : ℕ) (inb : ∀ a, (![k, 0, 0] : Fin 3 → ℕ) a + (![1, 128, 64] : Fin 3 → ℕ) a ≤ S16x128x64.size a) (a : Fin 1) (r : Fin 128) (q : Fin 64)
    (hk : k < 16) : (Rect.unit (s := S16x128x64) ![k, 0, 0] ![1, 128, 64] inb).emb (ix3 a r q) = (ix3 ⟨k, hk⟩ r q : S16x128x64.Idx) := by
  obtain rfl : a = 0 := Subsingleton.elim _ _
  blk_ext

/-- The state that the kernel leaves, entry by entry, from the convolution, the step sizes, their sums and the state before. -/
def stateOf (acc : FVec Ideal S32x2048 .f32) (dt ac : FVec Ideal S32x128 .f32) (h0 : FVec Ideal S16x128x64 .f32) (y : S16x128x64.Idx) : EReal :=
  have hh : (y 0).val < 16 := (y 0).isLt
  have hn : (y 1).val < 128 := (y 1).isLt
  have hp : (y 2).val < 64 := (y 2).isLt
  stateAt (fun l => k0_pay7 acc (ix2 l ⟨1024 + (y 0).val / 4 * 128 + (y 1).val, by omega⟩)) (fun l => k0_pay7 acc (ix2 l ⟨(y 0).val * 64 + (y 2).val, by omega⟩))
    (fun l => dt (ix2 l ⟨(y 0).val, by omega⟩)) (fun l => ac (ix2 l ⟨(y 0).val, by omega⟩)) (h0 y)

/-- The same at an entry of the slab of head `k`. -/
theorem stateOf_head (acc : FVec Ideal S32x2048 .f32) (dt ac : FVec Ideal S32x128 .f32) (h0 : FVec Ideal S16x128x64 .f32) (k : ℕ)
    (inb : ∀ a, (![k, 0, 0] : Fin 3 → ℕ) a + (![1, 128, 64] : Fin 3 → ℕ) a ≤ S16x128x64.size a) (a : Fin 1) (r : Fin 128) (q : Fin 64) (hk : k < 16) :
    stateOf acc dt ac h0 ((Rect.unit (s := S16x128x64) ![k, 0, 0] ![1, 128, 64] inb).emb (ix3 a r q))
      = stateAt (fun l => k0_pay7 acc (ix2 l ⟨1024 + k / 4 * 128 + r.val, by omega⟩)) (fun l => k0_pay7 acc (ix2 l ⟨k * 64 + q.val, by omega⟩))
          (fun l => dt (ix2 l ⟨k, by omega⟩)) (fun l => ac (ix2 l ⟨k, by omega⟩)) (h0 (ix3 ⟨k, hk⟩ r q)) := by
  rw [emb_head k inb a r q hk]
  rfl

/-- The activated convolution at two names of one lane. -/
theorem at_lane (acc : FVec Ideal S32x2048 .f32) (x : Fin 32) {i j : ℕ} (hi : i < 2048) (hj : j < 2048) (e : i = j) :
    k0_pay7 acc (ix2 x ⟨i, hi⟩) = k0_pay7 acc (ix2 x ⟨j, hj⟩) := by
  subst e
  rfl

/-- The same at an entry given by head, state and lane. -/
theorem stateOf_apply (acc : FVec Ideal S32x2048 .f32) (dt ac : FVec Ideal S32x128 .f32) (h0 : FVec Ideal S16x128x64 .f32) (h : Fin 16) (n : Fin 128) (p : Fin 64) :
    stateOf acc dt ac h0 (ix3 h n p)
      = stateAt (fun l => k0_pay7 acc (ix2 l ⟨1024 + h.val / 4 * 128 + n.val, by omega⟩)) (fun l => k0_pay7 acc (ix2 l ⟨h.val * 64 + p.val, by omega⟩))
          (fun l => dt (ix2 l ⟨h.val, by omega⟩)) (fun l => ac (ix2 l ⟨h.val, by omega⟩)) (h0 (ix3 h n p)) := rfl

/-- The kernel's state after the last step is the reference's. -/
theorem after13 (c : Dev nD) (t : Fin cfg0.N) (h : Fin 16) (n : Fin 128) (p : Fin 64) : (dats m 0 c).after 13 t (ix4 0 h n p : S1x16x128x64.Idx)
    = val_main_v124 (F := Ideal) (X0 m c) (X2 m c) (X3 m c) (X4 m c) (X5 m c) (X6 m c) (X7 m c) (X8 m c) (ix4 (bt t) h n p) := by
  rw [after0_13]
  unfold outsAt0
  frame_open
  simp (disch := decide) only [↓ View.readCov_skip, ↓ View.readCov_cons_toLoadRect, ↓ View.readCov_fill]
  frame_out
  generalize hacc : k0_pay6 (F := Ideal) _ _ _ _ _ _ _ _ _ = acc
  generalize hdt : k0_pay13 (F := Ideal) _ _ = dt
  generalize hac : k0_pay15 (F := Ideal) _ _ _ = ac
  generalize hh0 : k0_pay4 (F := Ideal) _ = h0
  generalize hS : View.readCov (Val := Elt Ideal) (View.whole cc0_scratch1) _ _ = S
  have e : k0_pay2 (F := Ideal) S (ix4 0 h n p) = S (ix3 h n p) := by
    pointwise [k0_pay2]
  refine e.trans ?_
  rw [← hS, View.readCov_eq_canon']
  clear hS e
  have ei : (Rect.unit (s := S16x128x64) ![0, 0, 0] ![16, 128, 64] inb_S16x128x64_S16x128x64_0_0_0).toLoadRect.idx (ix3 h n p) = (ix3 h n p : S16x128x64.Idx) := by
    show (Rect.unit (s := S16x128x64) ![0, 0, 0] ![16, 128, 64] inb_S16x128x64_S16x128x64_0_0_0).emb (ix3 h n p) = (ix3 h n p : S16x128x64.Idx)
    clear hacc hdt hac hh0
    blk_ext
  refine (congrArg (View.canon _) ei).trans ?_
  refine (canon_first (stateOf acc dt ac h0) _ 16 _ ?_ ?_).trans ?_
  · simp only [List.take_succ_cons, List.take_zero, View.PiecesOf, and_true]
    refine ⟨?_, ?_, ?_, ?_, ?_, ?_, ?_, ?_, ?_, ?_, ?_, ?_, ?_, ?_, ?_, ?_⟩
    all_goals
      clear hacc hdt hac hh0
      intro x
      obtain ⟨a, r, q, rfl⟩ : ∃ (a : Fin 1) (r : Fin 128) (q : Fin 64), x = ix3 a r q := ⟨x 0, x 1, x 2, eq_ix3 x⟩
      pointwise [k0_pay10, k0_pay11, k0_pay17, k0_pay18, k0_pay20, k0_pay21, k0_pay24, k0_pay25, k0_pay26, k0_pay27, k0_pay29, k0_pay31, k0_pay32, k0_pay33, k0_pay34, k0_pay38, k0_pay39, k0_pay40, k0_pay41, k0_pay44, k0_pay45, k0_pay46, k0_pay47, k0_pay49, k0_pay52, k0_pay54, k0_pay55, k0_pay56, k0_pay57, k0_pay60, k0_pay61, k0_pay62, k0_pay63, k0_pay65, k0_pay66, k0_pay67, k0_pay70, k0_pay72, k0_pay73, k0_pay74, k0_pay76, k0_pay77, k0_pay79, k0_pay82, k0_pay83, k0_pay84, k0_pay85, k0_pay87, k0_pay88, k0_pay90, k0_pay91, k0_pay92, k0_pay94, k0_pay95, k0_pay97, k0_pay98, k0_pay99, k0_pay101, k0_pay104, k0_pay105, k0_pay106, k0_pay107, k0_pay109, k0_pay112, k0_pay113, k0_pay114, k0_pay115, k0_pay116, k0_pay119, k0_pay120, k0_pay121, k0_pay122, k0_pay125, k0_pay126, k0_pay127, k0_pay128, k0_pay130, k0_pay131, k0_pay132, k0_pay135]
      refine Eq.trans ?_ (stateOf_head acc dt ac h0 _ _ a r q (by decide)).symm
      unfold stateAt
      blk_point []
      all_goals exact congrArg₂ (· * ·) (at_lane acc x _ _ (by omega)) (congrArg₂ (· * ·) (congrArg₂ (· * ·) (at_lane acc x _ _ (by omega)) rfl) rfl)
  · clear hacc hdt hac hh0
    simp only [List.take_succ_cons, List.take_zero, List.mem_cons, exists_eq_or_imp]
    have hh : h.val < 16 := h.isLt
    simp only [mem_head, List.not_mem_nil, false_and, exists_false, or_false]
    omega
  rw [SsdRef.state_ref]
  refine (stateOf_apply acc dt ac h0 h n p).trans ?_
  have hA : ∀ (l : Fin 32) (ch : Fin 2048), k0_pay7 (F := Ideal) acc (ix2 l ch)
      = val_main_v31 (F := Ideal) (X0 m c) (X3 m c) (X5 m c) (X6 m c) (ix3 (bt t) l ch) := by
    intro l ch
    rw [← hacc]
    refine act_of m c t _ _ _ _ _ _ _ _ _ l ch (bias_eq m c t ch) ?_ ?_ ?_ ?_ ?_ ?_ ?_ (row_high m c t l ch)
    · exact weight_load m c t 0 _ (by decide) ch
    · exact weight_load m c t 1 _ (by decide) ch
    · exact weight_load m c t 2 _ (by decide) ch
    · exact weight_load m c t 3 _ (by decide) ch
    · exact (laid_load m c t 5 32 _ (by decide) l ch).trans (laid_eq m c t ⟨l.val, by omega⟩ ch)
    · exact (laid_load m c t 6 32 _ (by decide) l ch).trans (laid_at m c t 1 l ch)
    · exact (laid_load m c t 7 32 _ (by decide) l ch).trans (laid_at m c t 2 l ch)
  have hD : ∀ (l : Fin 32) (h : Fin 16), dt (ix2 l ⟨h.val, by omega⟩) = val_main_v43 (F := Ideal) (X2 m c) (X7 m c) (ix3 (bt t) l h) :=
    fun l h => by rw [← hdt]; exact dt_eq m c t l h
  have hC : ∀ (l : Fin 32) (h : Fin 16), ac (ix2 l ⟨h.val, by omega⟩)
      = val_main_v60 (F := Ideal) (X2 m c) (X7 m c) (X8 m c) (SsdRef.headIx (bt t) l h) :=
    fun l h => by rw [← hac]; exact ac_eq m c t l h
  have hH : h0 (ix3 h n p) = X4 m c (ix4 (bt t) h p n) := by rw [← hh0]; exact h0_eq m c t h n p
  simp only [hA, hD, hC, hH]

end Cert.Ssd

end
-- ==== Proof.SsdNorm.lean ====
module

public import proofs.«01_k».proof.Defs
public import proofs.«01_k».proof.Proof.SsdRows
public import proofs.«01_k».proof.Proof.Gen.Kernel6Ideal.Value
public import proofs.«01_k».proof.Proof.Gen.Reference6Ideal.Read
public import Idealize.ShloMosaic.Lib.Pipeline.ValueKit
public import Idealize.ShloMosaic.Lib.Pipeline.ReadBack
public import Idealize.ShloMosaic.Lib.Pointwise

/-! The heads side by side, gated and normed. -/

@[expose] public section

set_option maxRecDepth 16384

noncomputable section

namespace Cert.Ssd

open Idealize.ShloMosaic Idealize.ShloMosaic.TcCoe Idealize.SL.Sem
open Idealize.ShloMosaic.Pipeline (Dat)
open Cert.Kernel6Ideal Cert.Kernel6Ideal.Gen
open Cert.Reference6Ideal.Read
open Cert.SsdMath

variable (m : (ℓ : Loc nD τ sig) → Buf (Elt Ideal) ℓ)

/-- The sixteen heads' outputs side by side. -/
abbrev heads (P0 P1 P2 P3 P4 P5 P6 P7 P8 P9 P10 P11 P12 P13 P14 P15 : FVec Ideal S32x64 .f32) : FVec Ideal S32x1024 .f32 :=
  concatenate S32x1024 1 [⟨S32x64, P0⟩, ⟨S32x64, P1⟩, ⟨S32x64, P2⟩, ⟨S32x64, P3⟩, ⟨S32x64, P4⟩, ⟨S32x64, P5⟩, ⟨S32x64, P6⟩, ⟨S32x64, P7⟩, ⟨S32x64, P8⟩, ⟨S32x64, P9⟩, ⟨S32x64, P10⟩, ⟨S32x64, P11⟩, ⟨S32x64, P12⟩, ⟨S32x64, P13⟩, ⟨S32x64, P14⟩, ⟨S32x64, P15⟩]
    concatenates_S32x64_S32x64_S32x64_S32x64_S32x64_S32x64_S32x64_S32x64_S32x64_S32x64_S32x64_S32x64_S32x64_S32x64_S32x64_S32x64_S32x1024_d1

/-- The gated rows. -/
def gated (Y : FVec Ideal S32x1024 .f32) (z : Vec Ideal S1x32x1024 .f32) : FVec Ideal S32x1024 .f32 :=
  mulf Y (mulf (shapeCast S32x1024 z shapeCasts_S1x32x1024_S32x1024) (logistic (shapeCast S32x1024 z shapeCasts_S1x32x1024_S32x1024)))

/-- The gated rows over their root mean square, with the gains. -/
def normed (Y : FVec Ideal S32x1024 .f32) (z : Vec Ideal S1x32x1024 .f32) (g : Vec Ideal S1x1024 .f32) : FVec Ideal S32x1024 .bf16 :=
  truncf .bf16 (mulf (mulf (gated Y z) (broadcastTo S32x1024 (rsqrt (addf (divf (shapeCast S32x1
    (multiReduction .add [1] S32 (mulf (gated Y z) (gated Y z)) 0x00000000#32 reduces_S32x1024_S32 (.inl rfl) rfl) shapeCasts_S32_S32x1)
    (broadcast S32x1 (Scalar.ofBits .f32 0x44800000#32))) (broadcast S32x1 (Scalar.ofBits .f32 0x358637BD#32)))) broadcasts_S32x1_S32x1024))
    (broadcastTo S32x1024 (shapeCast S1x1024 g shapeCasts_S1x1024_S1x1024) broadcasts_S1x1024_S32x1024)) bitsLt_bf16_f32

/-- The last head's output, of the parts that the kernel has when it forms it. -/
def lastHead (ea : FVec Ideal S32x128 .f32) (cm : FVec Ideal S32x128 .bf16) (x : FVec Ideal S32x64 .f32) (s : FVec Ideal S128x64 .f32)
    (sc : FVec Ideal S32x32 .bf16) (xdt : FVec Ideal S32x64 .bf16) (z0 : FVec Ideal S32x64 .f32) (skip : Elt Ideal .f32) : FVec Ideal S32x64 .f32 :=
  addf (addf (matmul dot_S32x32_S32x64_S32x64_1_0_0_1_n_n none sc xdt z0)
    (mulf (matmul dot_S32x128_S128x64_S32x64_1_0_0_1_n_n none cm (truncf .bf16 s bitsLt_bf16_f32) (constant S32x64 .f32 0x00000000#32))
      (broadcastTo S32x64 (extractStridedSlice S32x1 ![0, 15] ea slices_S32x128_o0_15_S32x1) broadcasts_S32x1_S32x64)))
    (mulf (broadcast S32x64 skip) x)

/-- The kernel's last stage is the norm of the gated heads. -/
theorem stage_eq (ea : FVec Ideal S32x128 .f32) (cm : FVec Ideal S32x128 .bf16) (x : FVec Ideal S32x64 .f32) (s : FVec Ideal S128x64 .f32)
    (sc : FVec Ideal S32x32 .bf16) (xdt : FVec Ideal S32x64 .bf16) (z0 : FVec Ideal S32x64 .f32) (skip : Elt Ideal .f32)
    (z : Vec Ideal S1x32x1024 .f32) (g : Vec Ideal S1x1024 .f32) (P0 P1 P2 P3 P4 P5 P6 P7 P8 P9 P10 P11 P12 P13 P14 : FVec Ideal S32x64 .f32) :
    k0_pay136 ea P0 P1 P2 P3 P4 P5 P6 P7 P8 P9 P10 P11 cm P12 P13 P14 x s sc xdt z0 skip z g
      = normed (heads P0 P1 P2 P3 P4 P5 P6 P7 P8 P9 P10 P11 P12 P13 P14 (lastHead ea cm x s sc xdt z0 skip)) z g := rfl

/-- Lane `h * 64 + p` of the heads side by side is lane `p` of head `h`. -/
theorem heads_apply (P0 P1 P2 P3 P4 P5 P6 P7 P8 P9 P10 P11 P12 P13 P14 P15 : FVec Ideal S32x64 .f32) (l : Fin 32) (h : Fin 16) (p : Fin 64) :
    heads P0 P1 P2 P3 P4 P5 P6 P7 P8 P9 P10 P11 P12 P13 P14 P15 (ix2 l ⟨h.val * 64 + p.val, by omega⟩)
      = (![P0, P1, P2, P3, P4, P5, P6, P7, P8, P9, P10, P11, P12, P13, P14, P15] : Fin 16 → FVec Ideal S32x64 .f32) h (ix2 l p) := by
  have hp : p.val < 64 := p.isLt
  refine concatenate_ofFn_apply (t := S32x1024) (s₁ := S32x64) 1 (N := 16) ![P0, P1, P2, P3, P4, P5, P6, P7, P8, P9, P10, P11, P12, P13, P14, P15] _ rfl 64 rfl (ix2 l ⟨h.val * 64 + p.val, by omega⟩) h ?_ (ix2 l p) ?_ ?_
  · show (h.val * 64 + p.val) / 64 = h.val
    omega
  · show p.val = (h.val * 64 + p.val) % 64
    omega
  · intro b hb
    match b with
    | ⟨0, _⟩ => rfl
    | ⟨1, _⟩ => exact absurd rfl hb

/-- What holds of every head holds of the heads side by side. -/
theorem heads_of (P0 P1 P2 P3 P4 P5 P6 P7 P8 P9 P10 P11 P12 P13 P14 P15 : FVec Ideal S32x64 .f32) (G : Fin 16 → Fin 32 → Fin 64 → EReal)
    (e0 : ∀ l p, P0 (ix2 l p) = G ⟨0, by decide⟩ l p)
    (e1 : ∀ l p, P1 (ix2 l p) = G ⟨1, by decide⟩ l p)
    (e2 : ∀ l p, P2 (ix2 l p) = G ⟨2, by decide⟩ l p)
    (e3 : ∀ l p, P3 (ix2 l p) = G ⟨3, by decide⟩ l p)
    (e4 : ∀ l p, P4 (ix2 l p) = G ⟨4, by decide⟩ l p)
    (e5 : ∀ l p, P5 (ix2 l p) = G ⟨5, by decide⟩ l p)
    (e6 : ∀ l p, P6 (ix2 l p) = G ⟨6, by decide⟩ l p)
    (e7 : ∀ l p, P7 (ix2 l p) = G ⟨7, by decide⟩ l p)
    (e8 : ∀ l p, P8 (ix2 l p) = G ⟨8, by decide⟩ l p)
    (e9 : ∀ l p, P9 (ix2 l p) = G ⟨9, by decide⟩ l p)
    (e10 : ∀ l p, P10 (ix2 l p) = G ⟨10, by decide⟩ l p)
    (e11 : ∀ l p, P11 (ix2 l p) = G ⟨11, by decide⟩ l p)
    (e12 : ∀ l p, P12 (ix2 l p) = G ⟨12, by decide⟩ l p)
    (e13 : ∀ l p, P13 (ix2 l p) = G ⟨13, by decide⟩ l p)
    (e14 : ∀ l p, P14 (ix2 l p) = G ⟨14, by decide⟩ l p)
    (e15 : ∀ l p, P15 (ix2 l p) = G ⟨15, by decide⟩ l p)
    (l : Fin 32) (h : Fin 16) (p : Fin 64) : heads P0 P1 P2 P3 P4 P5 P6 P7 P8 P9 P10 P11 P12 P13 P14 P15 (ix2 l ⟨h.val * 64 + p.val, by omega⟩) = G h l p := by
  rw [heads_apply]
  obtain ⟨k, hk⟩ := h
  interval_cases k
  exacts [e0 l p, e1 l p, e2 l p, e3 l p, e4 l p, e5 l p, e6 l p, e7 l p, e8 l p, e9 l p, e10 l p, e11 l p, e12 l p, e13 l p, e14 l p, e15 l p]

/-- The kernel's norm of the gated heads is the reference's. -/
theorem normed_eq (c : Dev nD) (B : Fin 16) (Y : FVec Ideal S32x1024 .f32) (z : Vec Ideal S1x32x1024 .f32) (g : Vec Ideal S1x1024 .f32)
    (hY : ∀ (l : Fin 32) (h : Fin 16) (p : Fin 64), Y (ix2 l ⟨h.val * 64 + p.val, by omega⟩)
      = val_main_v106 (F := Ideal) (X0 m c) (X2 m c) (X3 m c) (X4 m c) (X5 m c) (X6 m c) (X7 m c) (X8 m c) (X9 m c) (ix3 B l ⟨h.val * 64 + p.val, by omega⟩))
    (hz : ∀ (l : Fin 32) (ch : Fin 1024), z (ix3 0 l ch) = X1 m c (ix3 B l ch)) (hg : ∀ ch : Fin 1024, g (ix2 0 ch) = X10 m c (ix1 ch))
    (l : Fin 32) (ch : Fin 1024) :
    k0_pay1 (normed Y z g) (ix3 0 l ch)
      = val_main_v122 (F := Ideal) (X0 m c) (X1 m c) (X2 m c) (X3 m c) (X4 m c) (X5 m c) (X6 m c) (X7 m c) (X8 m c) (X9 m c) (X10 m c) (ix3 B l ch) := by
  have hY' : ∀ (l : Fin 32) (ch : Fin 1024), Y (ix2 l ch)
      = val_main_v106 (F := Ideal) (X0 m c) (X2 m c) (X3 m c) (X4 m c) (X5 m c) (X6 m c) (X7 m c) (X8 m c) (X9 m c) (ix3 B l ch) := by
    intro l ch
    have e : (⟨(⟨ch.val / 64, by omega⟩ : Fin 16).val * 64 + (⟨ch.val % 64, by omega⟩ : Fin 64).val, by dsimp only; omega⟩ : Fin 1024) = ch :=
      Fin.ext (by dsimp only; omega)
    have := hY l ⟨ch.val / 64, by omega⟩ ⟨ch.val % 64, by omega⟩
    rwa [e] at this
  clear hY
  generalize hv : val_main_v106 (F := Ideal) (X0 m c) (X2 m c) (X3 m c) (X4 m c) (X5 m c) (X6 m c) (X7 m c) (X8 m c) (X9 m c) = v at hY'
  pointwise [k0_pay1, normed, gated, val_main_v122, val_main_v121, val_main_v120, val_main_v119, val_main_v118, val_main_v117, val_main_v116, val_main_v115, val_main_v114, val_main_v113, val_main_v112, val_main_v111, val_main_v110, val_main_v109, val_main_v108, val_main_v107, val_main_call4_v5, val_main_call4_v4, val_main_call4_v3, val_main_call4_v2, val_main_call4_v1, val_main_call4_v0, val_main_call4_cst, val_main_call4_cst_0, val_main_cst_2, val_main_cst_3, val_main_cst_4]
  simp only [hv, hY', hz, hg, Ideal.logistic]

end Cert.Ssd

end
-- ==== Proof.SsdOut.lean ====
module

public import proofs.«01_k».proof.Defs
public import proofs.«01_k».proof.Proof.SsdState
public import proofs.«01_k».proof.Proof.SsdNorm
public import proofs.«01_k».proof.Proof.Gen.Kernel6Ideal.Value
public import proofs.«01_k».proof.Proof.Gen.Reference6Ideal.Read
public import Idealize.ShloMosaic.Lib.Pipeline.ValueKit
public import Idealize.ShloMosaic.Lib.Pipeline.ReadBack
public import Idealize.ShloMosaic.Lib.Pointwise

/-! The gated and normed rows of a sample. -/

@[expose] public section

set_option maxRecDepth 16384

noncomputable section

namespace Cert.Ssd

open Idealize.ShloMosaic Idealize.ShloMosaic.TcCoe Idealize.SL.Sem
open Idealize.ShloMosaic.Pipeline (Dat)
open Cert.Kernel6Ideal Cert.Kernel6Ideal.Gen
open Cert.Reference6Ideal.Read
open Cert.SsdMath

variable (m : (ℓ : Loc nD τ sig) → Buf (Elt Ideal) ℓ)

/-- The heads' outputs that the kernel forms, from the convolution, the step sizes, their sums, the state before and the skip weights. -/
def outOf (acc : FVec Ideal S32x2048 .f32) (dt ac : FVec Ideal S32x128 .f32) (h0 : FVec Ideal S16x128x64 .f32) (sk : Fin 16 → EReal)
    (h : Fin 16) (l : Fin 32) (p : Fin 64) : EReal :=
  outAt (fun l n => k0_pay7 acc (ix2 l ⟨1024 + h.val / 4 * 128 + n.val, by omega⟩)) (fun l n => k0_pay7 acc (ix2 l ⟨1536 + h.val / 4 * 128 + n.val, by omega⟩))
    (fun l => k0_pay7 acc (ix2 l ⟨h.val * 64 + p.val, by omega⟩)) (fun l => dt (ix2 l ⟨h.val, by omega⟩)) (fun l => ac (ix2 l ⟨h.val, by omega⟩))
    (fun n => h0 (ix3 h n p)) (sk h) l

/-- The same for the head of number `k`. -/
theorem outOf_head (acc : FVec Ideal S32x2048 .f32) (dt ac : FVec Ideal S32x128 .f32) (h0 : FVec Ideal S16x128x64 .f32) (sk : Fin 16 → EReal)
    (k : ℕ) (hk : k < 16) (l : Fin 32) (p : Fin 64) : outOf acc dt ac h0 sk ⟨k, hk⟩ l p =
  outAt (fun l n => k0_pay7 acc (ix2 l ⟨1024 + k / 4 * 128 + n.val, by omega⟩)) (fun l n => k0_pay7 acc (ix2 l ⟨1536 + k / 4 * 128 + n.val, by omega⟩))
    (fun l => k0_pay7 acc (ix2 l ⟨k * 64 + p.val, by omega⟩)) (fun l => dt (ix2 l ⟨k, by omega⟩)) (fun l => ac (ix2 l ⟨k, by omega⟩))
    (fun n => h0 (ix3 ⟨k, hk⟩ n p)) (sk ⟨k, hk⟩) l := rfl

/-- The skip weight that a head loads. -/
theorem skip_load (c : Dev nD) (t : Fin cfg0.N) (k : ℕ) (inb : ∀ a, (![k] : Fin 1 → ℕ) a + (![1] : Fin 1 → ℕ) a ≤ S16.size a) (hk : k < 16)
    (j : (Rect.unit (s := S16) ![k] ![1] inb).shape.Idx) :
    View.ld (Val := Elt Ideal) (e' := .f32) (iblk m c 0 t) (Rect.unit (s := S16) ![k] ![1] inb) j = X9 m c (ix1 ⟨k, hk⟩) := by
  have hj : (j 0).val < 1 := (j 0).isLt
  have e : ((cfg0.win 0).blk t).view.emb ((Rect.unit (s := S16) ![k] ![1] inb).emb j) = (ix1 ⟨k, hk⟩ : S16.Idx) := by
    blk_ext [idx t]
  exact congrArg (X9 m c) e

/-- The kernel turns the running sums on their side. -/
theorem side_eq (x : Vec Ideal S1x32x128 .f32) (y z : Vec Ideal S1x128 .f32) :
    k0_pay16 x y z = transpose S128x32 [1, 0] (k0_pay15 x y z) transposes_S32x128_p1_0_S128x32 := rfl

/-- The kernel's gated and normed rows are the reference's. -/
theorem after11 (c : Dev nD) (t : Fin cfg0.N) (l : Fin 32) (ch : Fin 1024) : (dats m 0 c).after 11 t (ix3 0 l ch : S1x32x1024.Idx)
    = val_main_v122 (F := Ideal) (X0 m c) (X1 m c) (X2 m c) (X3 m c) (X4 m c) (X5 m c) (X6 m c) (X7 m c) (X8 m c) (X9 m c) (X10 m c) (ix3 (bt t) l ch) := by
  rw [after0_11]
  unfold outsAt0
  frame_open
  simp (disch := decide) only [↓ View.readCov_skip, ↓ View.readCov_cons_toLoadRect, ↓ View.readCov_fill]
  frame_out
  rw [side_eq]
  generalize hacc : k0_pay6 (F := Ideal) _ _ _ _ _ _ _ _ _ = acc
  generalize hdt : k0_pay13 (F := Ideal) _ _ = dt
  generalize hac : k0_pay15 (F := Ideal) _ _ _ = ac
  generalize hh0 : k0_pay4 (F := Ideal) _ = h0
  rw [stage_eq]
  refine normed_eq m c (bt t) _ _ _ (fun l h p => ?_) (fun l ch => gate_eq m c t l ch) (fun ch => gain_eq m c t ch) l ch
  have hA : ∀ (l : Fin 32) (ch : Fin 2048), k0_pay7 (F := Ideal) acc (ix2 l ch)
      = val_main_v31 (F := Ideal) (X0 m c) (X3 m c) (X5 m c) (X6 m c) (ix3 (bt t) l ch) := by
    intro l ch
    rw [← hacc]
    refine act_of m c t _ _ _ _ _ _ _ _ _ l ch (bias_eq m c t ch) ?_ ?_ ?_ ?_ ?_ ?_ ?_ (row_high m c t l ch)
    · exact weight_load m c t 0 _ (by decide) ch
    · exact weight_load m c t 1 _ (by decide) ch
    · exact weight_load m c t 2 _ (by decide) ch
    · exact weight_load m c t 3 _ (by decide) ch
    · exact (laid_load m c t 5 32 _ (by decide) l ch).trans (laid_eq m c t ⟨l.val, by omega⟩ ch)
    · exact (laid_load m c t 6 32 _ (by decide) l ch).trans (laid_at m c t 1 l ch)
    · exact (laid_load m c t 7 32 _ (by decide) l ch).trans (laid_at m c t 2 l ch)
  have hD : ∀ (l : Fin 32) (h : Fin 16), dt (ix2 l ⟨h.val, by omega⟩) = val_main_v43 (F := Ideal) (X2 m c) (X7 m c) (ix3 (bt t) l h) :=
    fun l h => by rw [← hdt]; exact dt_eq m c t l h
  have hC : ∀ (l : Fin 32) (h : Fin 16), ac (ix2 l ⟨h.val, by omega⟩)
      = val_main_v60 (F := Ideal) (X2 m c) (X7 m c) (X8 m c) (SsdRef.headIx (bt t) l h) :=
    fun l h => by rw [← hac]; exact ac_eq m c t l h
  have hH : ∀ (n : Fin 128), h0 (ix3 h n p) = X4 m c (ix4 (bt t) h p n) := fun n => by rw [← hh0]; exact h0_eq m c t h n p
  clear hacc hdt hac hh0
  refine Eq.trans (b := outOf acc dt ac h0 (fun h => X9 m c (ix1 h)) h l p) ?_ ?_
  case refine_2 =>
    rw [SsdRef.out_ref]
    unfold outOf
    simp only [hA, hD, hC, hH]
  clear hA hD hC hH
  refine heads_of _ _ _ _ _ _ _ _ _ _ _ _ _ _ _ _ (outOf acc dt ac h0 (fun h => X9 m c (ix1 h))) ?_ ?_ ?_ ?_ ?_ ?_ ?_ ?_ ?_ ?_ ?_ ?_ ?_ ?_ ?_ ?_ l h p
  all_goals
    clear h p l ch
    intro l p
    rw [skip_load m c t _ _ (by decide)]
    refine Eq.trans ?_ (outOf_head acc dt ac h0 _ _ _ l p).symm
    pointwise [lastHead, k0_pay10, k0_pay11, k0_pay12, k0_pay14, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
    unfold outAt
    simp only [select_causal]
    all_goals
      refine congrArg₂ (· + ·) (congrArg₂ (· + ·)
          (Finset.sum_congr rfl fun s _ => congrArg₂ (· * ·)
            (congrArg₂ (· * ·) (Finset.sum_congr rfl fun n _ => congrArg₂ (· * ·) (at_lane acc l _ _ (by omega)) (at_lane acc s _ _ (by omega))) rfl)
            (congrArg₂ (· * ·) (at_lane acc s _ _ (by omega)) rfl))
          (congrArg₂ (· * ·) (Finset.sum_congr rfl fun n _ => congrArg₂ (· * ·) (at_lane acc l _ _ (by omega)) rfl) rfl))
        (congrArg₂ (· * ·) rfl (at_lane acc l _ _ (by omega)))

/-- The last eight rows laid out are the reference's. -/
theorem after12 (c : Dev nD) (t : Fin cfg0.N) (r : Fin 8) (ch : Fin 2048) : (dats m 0 c).after 12 t (ix3 0 r ch : S1x8x2048.Idx)
    = val_main_v32 (F := Ideal) (X0 m c) (X3 m c) (ix3 (bt t) r ch) := by
  rw [after0_12]
  unfold outsAt0
  frame_open
  simp (disch := decide) only [↓ View.readCov_skip, ↓ View.readCov_cons_toLoadRect, ↓ View.readCov_fill]
  frame_out
  generalize hS : View.readCov (Val := Elt Ideal) (View.whole cc0_scratch0) _ _ = S
  have e : k0_pay9 (F := Ideal) S (ix3 0 r ch) = S (ix2 r ch) := by
    pointwise [k0_pay9]
  refine e.trans ?_
  rw [← hS]
  refine (laid_load m c t 32 8 _ (by decide) r ch).trans ?_
  have e1 : val_main_v32 (F := Ideal) (X0 m c) (X3 m c) (ix3 (bt t) r ch)
      = val_main_v0 (F := Ideal) (X0 m c) (X3 m c) (ix3 (bt t) ⟨27 + r.val, by omega⟩ ch) := by
    generalize bt t = B
    pointwise [val_main_v32]
  refine Eq.trans (congrArg (fun k => laid m c t (ix2 k ch)) (Fin.ext ?_)) ((laid_eq m c t ⟨27 + r.val, by omega⟩ ch).trans e1.symm)
  show 32 + r.val = 5 + (27 + r.val)
  omega

end Cert.Ssd

end
-- ==== Proof.SsdValue.lean ====
module

public import proofs.«01_k».proof.Defs
public import proofs.«01_k».proof.Proof.SsdOut
public import proofs.«01_k».proof.Proof.Gen.Kernel6Ideal.Value
public import proofs.«01_k».proof.Proof.Gen.Reference6Ideal.Read
public import Idealize.ShloMosaic.Lib.Pipeline.ValueKit
public import Idealize.ShloMosaic.Lib.Pipeline.ReadBack
public import Idealize.ShloMosaic.Lib.Pointwise

/-! The three results of the kernel's call, as whole arrays. -/

@[expose] public section

set_option maxRecDepth 16384

noncomputable section

namespace Cert.Ssd

open Idealize.ShloMosaic Idealize.ShloMosaic.TcCoe Idealize.SL.Sem
open Idealize.ShloMosaic.Pipeline (Dat)
open Cert.Kernel6Ideal Cert.Kernel6Ideal.Gen
open Cert.Reference6Ideal.Read
open Cert.SsdMath

variable (m : (ℓ : Loc nD τ sig) → Buf (Elt Ideal) ℓ)

/-- The reference's rows at the kernel's arguments. -/
def G11 (c : Dev nD) : Buf (Elt Ideal) ((c : Thread nD τ).loc main_v8_0) :=
  val_main_v122 (F := Ideal) (X0 m c) (X1 m c) (X2 m c) (X3 m c) (X4 m c) (X5 m c) (X6 m c) (X7 m c) (X8 m c) (X9 m c) (X10 m c)

/-- The kernel's rows are the reference's. -/
theorem final11 (c : Dev nD) : (dats m 0 c).arrAt 11 cfg0.N = G11 m c := by
  refine (dats m 0 c).arrAt_eq_of_covers 11 _ (by decide +kernel) fun t hf y => ?_
  obtain ⟨a, r, n, rfl⟩ : ∃ (a : Fin 1) (r : Fin 32) (n : Fin 1024), y = ix3 a r n := ⟨y 0, y 1, y 2, eq_ix3 y⟩
  obtain rfl : a = 0 := Subsingleton.elim _ _
  have e : ((cfg0.win 11).blk t).view.emb (ix3 0 r n) = (ix3 (bt t) r n : S16x32x1024.Idx) := by
    blk_ext [idx t]
  rw [e]
  blk_simp
  exact after11 m c t r n

/-- The reference's last eight rows at the kernel's arguments. -/
def G12 (c : Dev nD) : Buf (Elt Ideal) ((c : Thread nD τ).loc main_v8_1) :=
  val_main_v32 (F := Ideal) (X0 m c) (X3 m c)

/-- The kernel's last eight rows are the reference's. -/
theorem final12 (c : Dev nD) : (dats m 0 c).arrAt 12 cfg0.N = G12 m c := by
  refine (dats m 0 c).arrAt_eq_of_covers 12 _ (by decide +kernel) fun t hf y => ?_
  obtain ⟨a, r, n, rfl⟩ : ∃ (a : Fin 1) (r : Fin 8) (n : Fin 2048), y = ix3 a r n := ⟨y 0, y 1, y 2, eq_ix3 y⟩
  obtain rfl : a = 0 := Subsingleton.elim _ _
  have e : ((cfg0.win 12).blk t).view.emb (ix3 0 r n) = (ix3 (bt t) r n : S16x8x2048.Idx) := by
    blk_ext [idx t]
  rw [e]
  blk_simp
  exact after12 m c t r n

/-- The reference's last state at the kernel's arguments. -/
def G13 (c : Dev nD) : Buf (Elt Ideal) ((c : Thread nD τ).loc main_v8_2) :=
  val_main_v124 (F := Ideal) (X0 m c) (X2 m c) (X3 m c) (X4 m c) (X5 m c) (X6 m c) (X7 m c) (X8 m c)

/-- The kernel's last state is the reference's. -/
theorem final13 (c : Dev nD) : (dats m 0 c).arrAt 13 cfg0.N = G13 m c := by
  refine (dats m 0 c).arrAt_eq_of_covers 13 _ (by decide +kernel) fun t hf y => ?_
  obtain ⟨a, h, n, p, rfl⟩ : ∃ (a : Fin 1) (h : Fin 16) (n : Fin 128) (p : Fin 64), y = ix4 a h n p := ⟨y 0, y 1, y 2, y 3, eq_ix4 y⟩
  obtain rfl : a = 0 := Subsingleton.elim _ _
  have e : ((cfg0.win 13).blk t).view.emb (ix4 0 h n p) = (ix4 (bt t) h n p : S16x16x128x64.Idx) := by
    blk_ext [idx t]
  rw [e]
  blk_simp
  exact after13 m c t h n p

end Cert.Ssd

end
-- ==== Proof.SsdClaims.lean ====
module

public import proofs.«01_k».proof.Defs
public import proofs.«01_k».proof.Proof.SsdValue
public import proofs.«01_k».proof.Proof.Gen.Kernel6.Frame
public import proofs.«01_k».proof.Proof.Gen.Kernel6Ideal.Frame
public import proofs.«01_k».proof.Proof.Gen.Reference6Ideal.Run
public import Idealize.ShloMosaic.Lib.Quiescent

/-! The claims about the scan of the sample: 16 samples of 32 rows each, one at a grid point. -/

@[expose] public section

noncomputable section

namespace Cert.Ssd.Claims

open Idealize.ShloMosaic Idealize.ShloMosaic.TcCoe Idealize.SL.Sem
open Cert.Reference6Ideal.Read

/-- The kernel leaves its arguments as they were and its semaphores at zero. -/
theorem frame : Cert.quiescent_Kernel6 := fun m ρ _ => Cert.Kernel6.Gen.frame m ρ

/-- So does its reading over the extended reals. -/
theorem frameIdeal : Cert.quiescent_Kernel6Ideal := fun m ρ _ => Cert.Kernel6Ideal.Gen.frame m ρ

/-- The reference is a host program without semaphores: its run keeps every argument. -/
theorem frameRef : Cert.quiescent_Reference6Ideal := fun m ρ _ =>
  (θ_run Cert.Reference6Ideal.defs _ _).mono (fun r h => ⟨fun c => (h c).2.2.2,
      Idealize.ShloMosaic.sem_eq_zero_of_no_sems (by decide) r.2⟩)
    (Cert.Reference6Ideal.Value.run (F := Ideal) m ρ)

/-- No operation was rewritten on the way to the extended reals. -/
theorem preserves : Cert.preserves_Kernel6_Kernel6Ideal := trivial

/-- Kernel and reference end with the same three arrays. -/
theorem algebraic : Cert.algebraic_Kernel6Ideal_Reference6Ideal := by
  intro m ρ m' ρ' _ hag
  refine ⟨fun c => G11 m c, fun c => G12 m c, fun c => G13 m c, ?_, ?_⟩
  · exact (θ_run Cert.Kernel6Ideal.defs _ _).mono
      (fun _ h c => ⟨(h c).1.trans (final11 m c), (h c).2.1.trans (final12 m c), (h c).2.2.1.trans (final13 m c), (h c).2.2.2⟩)
      (Cert.Kernel6Ideal.Value.run_blocks m ρ)
  · refine (θ_run Cert.Reference6Ideal.defs _ _).mono (fun _ h c => ?_)
      (Cert.Reference6Ideal.Value.run (F := Ideal) m' ρ')
    obtain ⟨a0, a1, a2, a3, a4, a5, a6, a7, a8, a9, a10⟩ := hag c
    refine ⟨(h c).1.trans ((val_main_v122_eq ..).trans ?_), (h c).2.1.trans ((val_main_v32_eq ..).trans ?_),
      (h c).2.2.1.trans ((val_main_v124_eq ..).trans ?_), (h c).2.2.2⟩
    · show val_main_v122 (F := Ideal) (m' ((c : Thread Cert.Reference6Ideal.nD Cert.Reference6Ideal.τ).loc Cert.Reference6Ideal.main_arg0))
        (m' ((c : Thread Cert.Reference6Ideal.nD Cert.Reference6Ideal.τ).loc Cert.Reference6Ideal.main_arg1))
        (m' ((c : Thread Cert.Reference6Ideal.nD Cert.Reference6Ideal.τ).loc Cert.Reference6Ideal.main_arg2))
        (m' ((c : Thread Cert.Reference6Ideal.nD Cert.Reference6Ideal.τ).loc Cert.Reference6Ideal.main_arg3))
        (m' ((c : Thread Cert.Reference6Ideal.nD Cert.Reference6Ideal.τ).loc Cert.Reference6Ideal.main_arg4))
        (m' ((c : Thread Cert.Reference6Ideal.nD Cert.Reference6Ideal.τ).loc Cert.Reference6Ideal.main_arg5))
        (m' ((c : Thread Cert.Reference6Ideal.nD Cert.Reference6Ideal.τ).loc Cert.Reference6Ideal.main_arg6))
        (m' ((c : Thread Cert.Reference6Ideal.nD Cert.Reference6Ideal.τ).loc Cert.Reference6Ideal.main_arg7))
        (m' ((c : Thread Cert.Reference6Ideal.nD Cert.Reference6Ideal.τ).loc Cert.Reference6Ideal.main_arg8))
        (m' ((c : Thread Cert.Reference6Ideal.nD Cert.Reference6Ideal.τ).loc Cert.Reference6Ideal.main_arg9))
        (m' ((c : Thread Cert.Reference6Ideal.nD Cert.Reference6Ideal.τ).loc Cert.Reference6Ideal.main_arg10)) = G11 m c
      rw [a0, a1, a2, a3, a4, a5, a6, a7, a8, a9, a10]
      rfl
    · show val_main_v32 (F := Ideal) (m' ((c : Thread Cert.Reference6Ideal.nD Cert.Reference6Ideal.τ).loc Cert.Reference6Ideal.main_arg0))
        (m' ((c : Thread Cert.Reference6Ideal.nD Cert.Reference6Ideal.τ).loc Cert.Reference6Ideal.main_arg3)) = G12 m c
      rw [a0, a3]
      rfl
    · show val_main_v124 (F := Ideal) (m' ((c : Thread Cert.Reference6Ideal.nD Cert.Reference6Ideal.τ).loc Cert.Reference6Ideal.main_arg0))
        (m' ((c : Thread Cert.Reference6Ideal.nD Cert.Reference6Ideal.τ).loc Cert.Reference6Ideal.main_arg2))
        (m' ((c : Thread Cert.Reference6Ideal.nD Cert.Reference6Ideal.τ).loc Cert.Reference6Ideal.main_arg3))
        (m' ((c : Thread Cert.Reference6Ideal.nD Cert.Reference6Ideal.τ).loc Cert.Reference6Ideal.main_arg4))
        (m' ((c : Thread Cert.Reference6Ideal.nD Cert.Reference6Ideal.τ).loc Cert.Reference6Ideal.main_arg5))
        (m' ((c : Thread Cert.Reference6Ideal.nD Cert.Reference6Ideal.τ).loc Cert.Reference6Ideal.main_arg6))
        (m' ((c : Thread Cert.Reference6Ideal.nD Cert.Reference6Ideal.τ).loc Cert.Reference6Ideal.main_arg7))
        (m' ((c : Thread Cert.Reference6Ideal.nD Cert.Reference6Ideal.τ).loc Cert.Reference6Ideal.main_arg8)) = G13 m c
      rw [a0, a2, a3, a4, a5, a6, a7, a8]
      rfl

end Cert.Ssd.Claims

end
-- ==== Proof.lean ====
module

public import proofs.«01_k».proof.Defs
public import proofs.«01_k».proof.Proof.AttnFrames
public import proofs.«01_k».proof.Proof.InProjClaims
public import proofs.«01_k».proof.Proof.OutProjClaims
public import proofs.«01_k».proof.Proof.AttnClaims
public import proofs.«01_k».proof.Proof.ModClaims
public import proofs.«01_k».proof.Proof.SampleClaims
public import proofs.«01_k».proof.Proof.SsdClaims

/-! The claims of this certificate, put together from the modules that prove each call's. -/

@[expose] public section

noncomputable section

namespace Cert.Proof

open Idealize.ShloMosaic Idealize.SL.Sem

/-- Every claim, each from its own module. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Attn.Claims.predicateFacts,
    Cert.Attn.Claims.frame, Cert.Attn.Claims.frameIdeal, Cert.Attn.Claims.frameIdealFinite,
    Cert.Attn.Claims.frameRef, Cert.Attn.Claims.frameRefFinite,
    Cert.InProj.Claims.frame, Cert.InProj.Claims.frameIdeal, Cert.InProj.Claims.frameRef,
    Cert.OutProj.Claims.frame, Cert.OutProj.Claims.frameIdeal, Cert.OutProj.Claims.frameRef,
    Cert.Mod.Claims.frame, Cert.Mod.Claims.frameIdeal, Cert.Mod.Claims.frameRef,
    Cert.Sample.Claims.frame, Cert.Sample.Claims.frameIdeal, Cert.Sample.Claims.frameRef,
    Cert.Ssd.Claims.frame, Cert.Ssd.Claims.frameIdeal, Cert.Ssd.Claims.frameRef,
    Cert.Attn.Claims.preserves, Cert.Attn.Claims.algebraic,
    Cert.InProj.Claims.preserves, Cert.InProj.Claims.algebraic,
    Cert.OutProj.Claims.preserves, Cert.OutProj.Claims.algebraic,
    Cert.Mod.Claims.preserves, Cert.Mod.Claims.algebraic, Cert.Sample.Claims.preserves, Cert.Sample.Claims.algebraic,
    Cert.Ssd.Claims.preserves, Cert.Ssd.Claims.algebraic⟩

end Cert.Proof

end
